-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_KernelIdeal [hPre_finite_scores_KernelIdeal : Cert.Pre_finite_scores_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_ReferenceIdeal [hPre_finite_scores_ReferenceIdeal : Cert.Pre_finite_scores_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_scores_KernelIdeal [hKernelIdeal : Cert.KernelIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_scores_ReferenceIdeal [hReferenceIdeal : Cert.ReferenceIdeal.Facts] [hPre_finite_scores_ReferenceIdeal : Cert.Pre_finite_scores_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite_scores_KernelIdeal [hKernelIdeal : Cert.KernelIdeal.Facts] [hReferenceIdeal : Cert.ReferenceIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_KernelIdeal m →
    (∀ c : Dev Cert.KernelIdeal.nD,
      m ((c.tc : Thread Cert.KernelIdeal.nD Cert.KernelIdeal.τ).loc Cert.KernelIdeal.main_arg0) = Layout.block ⟨4, ![4, 256, 16, 64]⟩ ⟨4, ![4, 1024, 16, 64]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨4, ![4, 256, 16, 64]⟩ ⟨4, ![4, 1024, 16, 64]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨4, ![4, 256, 16, 64]⟩ ⟨4, ![4, 1024, 16, 64]⟩ 1 4 c (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = Layout.block ⟨4, ![4, 256, 16, 64]⟩ ⟨4, ![4, 1024, 16, 64]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v14) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_scores_KernelIdeal : Cert.Pre_finite_scores_KernelIdeal.Facts) (hPre_finite_scores_ReferenceIdeal : Cert.Pre_finite_scores_ReferenceIdeal.Facts),
    quiescent_Kernel (hKernel := hKernel)
    ∧ quiescent_KernelIdeal (hKernelIdeal := hKernelIdeal)
    ∧ quiescent_KernelIdeal_pre_finite_scores_KernelIdeal (hKernelIdeal := hKernelIdeal) (hPre_finite_scores_KernelIdeal := hPre_finite_scores_KernelIdeal)
    ∧ quiescent_ReferenceIdeal (hReferenceIdeal := hReferenceIdeal)
    ∧ quiescent_ReferenceIdeal_pre_finite_scores_ReferenceIdeal (hReferenceIdeal := hReferenceIdeal) (hPre_finite_scores_ReferenceIdeal := hPre_finite_scores_ReferenceIdeal)
    ∧ preserves_Kernel_KernelIdeal
    ∧ algebraic_KernelIdeal_ReferenceIdeal_pre_finite_scores_KernelIdeal (hKernelIdeal := hKernelIdeal) (hReferenceIdeal := hReferenceIdeal) (hPre_finite_scores_KernelIdeal := hPre_finite_scores_KernelIdeal)
-- ==== Pre_finite_scores_KernelIdeal.lean ====
abbrev S4x256x16x64 : Shape := ⟨4, ![4, 256, 16, 64]⟩
abbrev S_ : Shape := ⟨0, ![]⟩

class Facts : Prop where
  bcast_S_S4x256x16x64 : S_.BroadcastsInDim S4x256x16x64 (![] : Fin 0 → Fin S4x256x16x64.rank)

variable [Facts]

def fn {F : FTy → Type} [FloatOps F] (main_arg0 : FVec F S4x256x16x64 .bf16) (main_arg1 : FVec F S4x256x16x64 .bf16) (main_arg2 : FVec F S4x256x16x64 .bf16) : IVec S4x256x16x64 1 :=
  let main_v0 : FVec F S4x256x16x64 .bf16 := Host.absf main_arg0
  let main_cst : FVec F S_ .bf16 := constant S_ .bf16 0x7F80#16
  let main_v1 : FVec F S4x256x16x64 .bf16 := broadcastInDim S4x256x16x64 ![] bcast_S_S4x256x16x64 main_cst
  let main_v2 : IVec S4x256x16x64 1 := cmpf .olt main_v0 main_v1
  let main_v3 : FVec F S4x256x16x64 .bf16 := Host.absf main_arg1
  let main_cst_0 : FVec F S_ .bf16 := constant S_ .bf16 0x7F80#16
  let main_v4 : FVec F S4x256x16x64 .bf16 := broadcastInDim S4x256x16x64 ![] bcast_S_S4x256x16x64 main_cst_0
  let main_v5 : IVec S4x256x16x64 1 := cmpf .olt main_v3 main_v4
  let main_v6 : IVec S4x256x16x64 1 := andi main_v2 main_v5
  main_v6
-- ==== Pre_finite_scores_ReferenceIdeal.lean ====
abbrev S4x1024x16x64 : Shape := ⟨4, ![4, 1024, 16, 64]⟩
abbrev S_ : Shape := ⟨0, ![]⟩

class Facts : Prop where
  bcast_S_S4x1024x16x64 : S_.BroadcastsInDim S4x1024x16x64 (![] : Fin 0 → Fin S4x1024x16x64.rank)

variable [Facts]

def fn {F : FTy → Type} [FloatOps F] (main_arg0 : FVec F S4x1024x16x64 .bf16) (main_arg1 : FVec F S4x1024x16x64 .bf16) (main_arg2 : FVec F S4x1024x16x64 .bf16) : IVec S4x1024x16x64 1 :=
  let main_v0 : FVec F S4x1024x16x64 .bf16 := Host.absf main_arg0
  let main_cst : FVec F S_ .bf16 := constant S_ .bf16 0x7F80#16
  let main_v1 : FVec F S4x1024x16x64 .bf16 := broadcastInDim S4x1024x16x64 ![] bcast_S_S4x1024x16x64 main_cst
  let main_v2 : IVec S4x1024x16x64 1 := cmpf .olt main_v0 main_v1
  let main_v3 : FVec F S4x1024x16x64 .bf16 := Host.absf main_arg1
  let main_cst_0 : FVec F S_ .bf16 := constant S_ .bf16 0x7F80#16
  let main_v4 : FVec F S4x1024x16x64 .bf16 := broadcastInDim S4x1024x16x64 ![] bcast_S_S4x1024x16x64 main_cst_0
  let main_v5 : IVec S4x1024x16x64 1 := cmpf .olt main_v3 main_v4
  let main_v6 : IVec S4x1024x16x64 1 := andi main_v2 main_v5
  main_v6
-- ==== Kernel.lean ====
abbrev S4x256x16x64 : Shape := ⟨4, ![4, 256, 16, 64]⟩
abbrev S_ : Shape := ⟨0, ![]⟩
abbrev S4x16x256x64 : Shape := ⟨4, ![4, 16, 256, 64]⟩
abbrev S64x256x64 : Shape := ⟨3, ![64, 256, 64]⟩
abbrev S4x16x64x256 : Shape := ⟨4, ![4, 16, 64, 256]⟩
abbrev S64x64x256 : Shape := ⟨3, ![64, 64, 256]⟩
abbrev S64x64x128 : Shape := ⟨3, ![64, 64, 128]⟩
abbrev S3x64x64x128 : Shape := ⟨4, ![3, 64, 64, 128]⟩
abbrev S64x256 : Shape := ⟨2, ![64, 256]⟩
abbrev S3 : Shape := ⟨1, ![3]⟩
abbrev S8x64x128 : Shape := ⟨3, ![8, 64, 128]⟩
abbrev S8x256x64 : Shape := ⟨3, ![8, 256, 64]⟩
abbrev S8x256x128 : Shape := ⟨3, ![8, 256, 128]⟩
abbrev S8x256 : Shape := ⟨2, ![8, 256]⟩
abbrev S1 : Shape := ⟨1, ![1]⟩
abbrev S1x64x64x128 : Shape := ⟨4, ![1, 64, 64, 128]⟩
abbrev S8x256x1 : Shape := ⟨3, ![8, 256, 1]⟩

abbrev nBuf : Space → Nat
  | .hbm => 19
  | .vmem => 11
  | .smem => 0
  | _ => 0

abbrev bufTy : (tb : Table) → Fin (tcTables nBuf tb) → BufTy
  | .hbm, ⟨0, _⟩ => ⟨S4x256x16x64, .bf16⟩
  | .hbm, ⟨1, _⟩ => ⟨S4x256x16x64, .bf16⟩
  | .hbm, ⟨2, _⟩ => ⟨S4x256x16x64, .bf16⟩
  | .hbm, ⟨3, _⟩ => ⟨S_, .bf16⟩
  | .hbm, ⟨4, _⟩ => ⟨S4x256x16x64, .bf16⟩
  | .hbm, ⟨5, _⟩ => ⟨S4x256x16x64, .bf16⟩
  | .hbm, ⟨6, _⟩ => ⟨S4x16x256x64, .bf16⟩
  | .hbm, ⟨7, _⟩ => ⟨S64x256x64, .bf16⟩
  | .hbm, ⟨8, _⟩ => ⟨S4x16x64x256, .bf16⟩
  | .hbm, ⟨9, _⟩ => ⟨S64x64x256, .bf16⟩
  | .hbm, ⟨10, _⟩ => ⟨S4x16x64x256, .bf16⟩
  | .hbm, ⟨11, _⟩ => ⟨S64x64x256, .bf16⟩
  | .hbm, ⟨12, _⟩ => ⟨S64x64x128, .bf16⟩
  | .hbm, ⟨13, _⟩ => ⟨S64x64x128, .bf16⟩
  | .hbm, ⟨14, _⟩ => ⟨S64x64x128, .bf16⟩
  | .hbm, ⟨15, _⟩ => ⟨S64x64x128, .bf16⟩
  | .hbm, ⟨16, _⟩ => ⟨S64x256x64, .f32⟩
  | .hbm, ⟨17, _⟩ => ⟨S4x16x256x64, .f32⟩
  | .hbm, ⟨18, _⟩ => ⟨S4x256x16x64, .f32⟩
  | .local _ .vmem, ⟨0, _⟩ => ⟨S64x256x64, .bf16⟩
  | .local _ .vmem, ⟨1, _⟩ => ⟨S64x64x128, .bf16⟩
  | .local _ .vmem, ⟨2, _⟩ => ⟨S64x64x128, .bf16⟩
  | .local _ .vmem, ⟨3, _⟩ => ⟨S64x64x128, .bf16⟩
  | .local _ .vmem, ⟨4, _⟩ => ⟨S64x64x128, .bf16⟩
  | .local _ .vmem, ⟨5, _⟩ => ⟨S64x256x64, .f32⟩
  | .local _ .vmem, ⟨6, _⟩ => ⟨S3x64x64x128, .bf16⟩
  | .local _ .vmem, ⟨7, _⟩ => ⟨S3x64x64x128, .bf16⟩
  | .local _ .vmem, ⟨8, _⟩ => ⟨S3x64x64x128, .bf16⟩
  | .local _ .vmem, ⟨9, _⟩ => ⟨S3x64x64x128, .bf16⟩
  | .local _ .vmem, ⟨10, _⟩ => ⟨S64x256, .f32⟩
  | _, _ => ⟨S4x256x16x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 1 → Bool
  | ⟨0, _⟩ => false
  | _ => false

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  (ofTc nBuf bufTy 1 30 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_16 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_15 : BitVec 32 := 1#32
  let v27 : BitVec 32 := Scalar.muli v14 c1_i32_15
  let v28 : BitVec 32 := Scalar.addi c0_i32_16 v27
  v28.toNat
def k0_dev2 (d0 : Dev nD) : Nat :=
  let c0_i32_19 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_18 : BitVec 32 := 1#32
  let v29 : BitVec 32 := Scalar.muli v25 c1_i32_18
  let v30 : BitVec 32 := Scalar.addi c0_i32_19 v29
  v30.toNat
def k0_dev3 (d0 : Dev nD) : Nat :=
  let c0_i32_327 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_326 : BitVec 32 := 1#32
  let v311 : BitVec 32 := Scalar.muli v25 c1_i32_326
  let v312 : BitVec 32 := Scalar.addi c0_i32_327 v311
  v312.toNat
def k0_dev4 (d0 : Dev nD) : Nat :=
  let c0_i32_335 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_334 : BitVec 32 := 1#32
  let v319 : BitVec 32 := Scalar.muli v25 c1_i32_334
  let v320 : BitVec 32 := Scalar.addi c0_i32_335 v319
  v320.toNat
def k0_dev5 (d0 : Dev nD) : Nat :=
  let c0_i32_343 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_342 : BitVec 32 := 1#32
  let v327 : BitVec 32 := Scalar.muli v14 c1_i32_342
  let v328 : BitVec 32 := Scalar.addi c0_i32_343 v327
  v328.toNat
def k0_dev6 (d0 : Dev nD) : Nat :=
  let c0_i32_351 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_350 : BitVec 32 := 1#32
  let v335 : BitVec 32 := Scalar.muli v14 c1_i32_350
  let v336 : BitVec 32 := Scalar.addi c0_i32_351 v335
  v336.toNat
def k0_dev7 (d0 : Dev nD) : Nat :=
  let c0_i32_420 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_419 : BitVec 32 := 1#32
  let v383 : BitVec 32 := Scalar.muli v25 c1_i32_419
  let v384 : BitVec 32 := Scalar.addi c0_i32_420 v383
  v384.toNat
def k0_dev8 (d0 : Dev nD) : Nat :=
  let c0_i32_432 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_431 : BitVec 32 := 1#32
  let v393 : BitVec 32 := Scalar.muli v25 c1_i32_431
  let v394 : BitVec 32 := Scalar.addi c0_i32_432 v393
  v394.toNat
def k0_dev9 (d0 : Dev nD) : Nat :=
  let c0_i32_444 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_443 : BitVec 32 := 1#32
  let v403 : BitVec 32 := Scalar.muli v14 c1_i32_443
  let v404 : BitVec 32 := Scalar.addi c0_i32_444 v403
  v404.toNat
def k0_dev10 (d0 : Dev nD) : Nat :=
  let c0_i32_456 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_455 : BitVec 32 := 1#32
  let v413 : BitVec 32 := Scalar.muli v14 c1_i32_455
  let v414 : BitVec 32 := Scalar.addi c0_i32_456 v413
  v414.toNat
def k0_dev11 (d0 : Dev nD) : Nat :=
  let c0_i32_1040 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1039 : BitVec 32 := 1#32
  let v831 : BitVec 32 := Scalar.muli v25 c1_i32_1039
  let v832 : BitVec 32 := Scalar.addi c0_i32_1040 v831
  v832.toNat
def k0_dev12 (d0 : Dev nD) : Nat :=
  let c0_i32_1052 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1051 : BitVec 32 := 1#32
  let v841 : BitVec 32 := Scalar.muli v25 c1_i32_1051
  let v842 : BitVec 32 := Scalar.addi c0_i32_1052 v841
  v842.toNat
def k0_dev13 (d0 : Dev nD) : Nat :=
  let c0_i32_1064 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1063 : BitVec 32 := 1#32
  let v851 : BitVec 32 := Scalar.muli v14 c1_i32_1063
  let v852 : BitVec 32 := Scalar.addi c0_i32_1064 v851
  v852.toNat
def k0_dev14 (d0 : Dev nD) : Nat :=
  let c0_i32_1076 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1075 : BitVec 32 := 1#32
  let v861 : BitVec 32 := Scalar.muli v14 c1_i32_1075
  let v862 : BitVec 32 := Scalar.addi c0_i32_1076 v861
  v862.toNat
abbrev stage0_0 : Fin 1 → Memref sig .tc .vmem S64x256x64 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x64x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x64x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x64x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S64x64x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S64x256x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S4x1024x16x64 : Shape := ⟨4, ![4, 1024, 16, 64]⟩
abbrev S4x16x1024x1024 : Shape := ⟨4, ![4, 16, 1024, 1024]⟩
abbrev S_ : Shape := ⟨0, ![]⟩
abbrev S4x16x1024 : Shape := ⟨3, ![4, 16, 1024]⟩
abbrev S4x16x1024x1 : Shape := ⟨4, ![4, 16, 1024, 1]⟩
abbrev S4x16x64x1024 : Shape := ⟨4, ![4, 16, 64, 1024]⟩

abbrev nBuf : Space → Nat
  | .hbm => 21
  | .vmem => 0
  | .smem => 0
  | _ => 0

abbrev bufTy : (tb : Table) → Fin (tcTables nBuf tb) → BufTy
  | .hbm, ⟨0, _⟩ => ⟨S4x1024x16x64, .bf16⟩
  | .hbm, ⟨1, _⟩ => ⟨S4x1024x16x64, .bf16⟩
  | .hbm, ⟨2, _⟩ => ⟨S4x1024x16x64, .bf16⟩
  | .hbm, ⟨3, _⟩ => ⟨S4x16x1024x1024, .f32⟩
  | .hbm, ⟨4, _⟩ => ⟨S_, .f32⟩
  | .hbm, ⟨5, _⟩ => ⟨S4x16x1024x1024, .f32⟩
  | .hbm, ⟨6, _⟩ => ⟨S4x16x1024x1024, .f32⟩
  | .hbm, ⟨7, _⟩ => ⟨S_, .f32⟩
  | .hbm, ⟨8, _⟩ => ⟨S4x16x1024, .f32⟩
  | .hbm, ⟨9, _⟩ => ⟨S4x16x1024x1, .f32⟩
  | .hbm, ⟨10, _⟩ => ⟨S4x16x1024x1024, .f32⟩
  | .hbm, ⟨11, _⟩ => ⟨S4x16x1024x1024, .f32⟩
  | .hbm, ⟨12, _⟩ => ⟨S4x16x1024x1024, .f32⟩
  | .hbm, ⟨13, _⟩ => ⟨S_, .f32⟩
  | .hbm, ⟨14, _⟩ => ⟨S4x16x1024, .f32⟩
  | .hbm, ⟨15, _⟩ => ⟨S4x16x1024x1, .f32⟩
  | .hbm, ⟨16, _⟩ => ⟨S4x16x1024x1024, .f32⟩
  | .hbm, ⟨17, _⟩ => ⟨S4x16x1024x1024, .f32⟩
  | .hbm, ⟨18, _⟩ => ⟨S4x1024x16x64, .f32⟩
  | .hbm, ⟨19, _⟩ => ⟨S4x16x64x1024, .f32⟩
  | .hbm, ⟨20, _⟩ => ⟨S4x1024x16x64, .f32⟩
  | _, _ => ⟨S4x1024x16x64, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Proof.KiShape.lean ====
/-
  The kernel function of `KernelIdeal` written by its structure: one head group against one half of one device's
  keys (`chunkFirst`, `chunkAcc`), all groups of a slot (`slotFirst`, `slotAcc`), the four copies of a hop and
  their waits, the final division. The printed function, unrolled, is this program.
-/
module

public import proofs.«01_k».proof.Proof.Gen.KernelIdeal.Skeleton
public import Idealize.ShloMosaic.Lib.Pipeline.Regions

@[expose] public section

noncomputable section

namespace Cert.KernelIdeal.Attn

open Cert.KernelIdeal Cert.KernelIdeal.Gen
open Idealize.ShloMosaic Idealize.SL.Sem

variable {F : FTy → Type} [FloatOps F]

/-- Programs of the kernel's TensorCore. -/
abbrev PK (F : FTy → Type) (α : Type) : Type _ := Prog (TpuEff nD τ sig (Elt F) Λ₀ .tc) α

theorem inbK (g : Fin 8) : ∀ a, (![8 * g.val, 0, 0] : Fin 3 → Nat) a + S8x64x128.size a ≤ S64x64x128.size a := by
  revert g; decide
theorem inbQ (g : Fin 8) : ∀ a, (![8 * g.val, 0, 0] : Fin 3 → Nat) a + S8x256x64.size a ≤ S64x256x64.size a := by
  revert g; decide
theorem inbD (g : Fin 8) : ∀ a, (![8 * g.val, 0] : Fin 2 → Nat) a + S8x256.size a ≤ S64x256.size a := by
  revert g; decide
theorem inbS (h : Fin 3) : ∀ a, (![h.val, 0, 0, 0] : Fin 4 → Nat) a + S1x64x64x128.size a ≤ S3x64x64x128.size a := by
  revert h; decide
theorem inbN (h : Fin 3) : ∀ a, (![h.val] : Fin 1 → Nat) a + S1.size a ≤ S3.size a := by
  revert h; decide

/-- The rows of head group `g`: in a block of keys or values, in the queries or the output, in the denominators. -/
abbrev rK (g : Fin 8) : Rect S64x64x128 := Rect.unit (s := S64x64x128) ![8 * g.val, 0, 0] S8x64x128.size (inbK g)
abbrev rQ (g : Fin 8) : Rect S64x256x64 := Rect.unit (s := S64x256x64) ![8 * g.val, 0, 0] S8x256x64.size (inbQ g)
abbrev rD (g : Fin 8) : Rect S64x256 := Rect.unit (s := S64x256) ![8 * g.val, 0] S8x256.size (inbD g)
/-- Slot `h` of a gathered buffer. -/
abbrev rS (h : Fin 3) : Rect S3x64x64x128 := Rect.unit (s := S3x64x64x128) ![h.val, 0, 0, 0] S1x64x64x128.size (inbS h)

theorem wordsS (h : Fin 3) : (rS h).WholeWords (EltTy.packing .bf16) := by
  revert h; decide +kernel

/-- Slot `h` of a gathered buffer, as a block of keys or values. -/
abbrev slotM (a : Memref sig .tc .vmem S3x64x64x128 .bf16) (h : Fin 3) : Memref sig .tc .vmem S64x64x128 .bf16 :=
  (a.slice (rS h) (fun _ => rfl)).squeeze S64x64x128 squeezes_S1x64x64x128_S64x64x128
/-- Semaphore `h` of an array of three. -/
abbrev semN (a : DmaSems sig S3) (h : Fin 3) : DmaSem sig :=
  ((a.slice (Rect.unit (s := S3) ![h.val] S1.size (inbN h))).squeeze S_ squeezes_S1_S_).sem

/-- A group of the own block, as read: a reshape to its own shape. -/
abbrev castK (k : Vec F S8x64x128 .bf16) : Vec F S8x64x128 .bf16 :=
  (shapeCast S8x64x128 k shapeCasts_S8x64x128_S8x64x128 : FVec F S8x64x128 .bf16)
/-- The exponentials of a group's scores. -/
def pExp (k : Vec F S8x64x128 .bf16) (q : Vec F S8x256x64 .bf16) : FVec F S8x256x128 .f32 :=
  exp (matmul dot_S8x256x64_S8x64x128_S8x256x128_2_1_1_2_0_0 none (shapeCast S8x256x64 q shapeCasts_S8x256x64_S8x256x64 : FVec F S8x256x64 .bf16)
    k (constant S8x256x128 .f32 0x00000000#32))
/-- Their sums over the keys. -/
def pSum (k : Vec F S8x64x128 .bf16) (q : Vec F S8x256x64 .bf16) : FVec F S8x256 .f32 :=
  multiReduction .add [2] S8x256 (pExp k q) 0x00000000#32 reduces_S8x256x128_S8x256 (.inl rfl) rfl
/-- Their sums against the values. -/
def pOut (k v : Vec F S8x64x128 .bf16) (q : Vec F S8x256x64 .bf16) : FVec F S8x256x64 .f32 :=
  matmul dot_S8x256x128_S8x64x128_S8x256x64_2_2_1_1_0_0 none (truncf .bf16 (pExp k q) bitsLt_bf16_f32)
    v (constant S8x256x64 .f32 0x00000000#32)
def dFirst (k : Vec F S8x64x128 .bf16) (q : Vec F S8x256x64 .bf16) : FVec F S8x256 .f32 :=
  shapeCast S8x256 (pSum k q) shapeCasts_S8x256_S8x256
def dAcc (k : Vec F S8x64x128 .bf16) (q : Vec F S8x256x64 .bf16) (d : Vec F S8x256 .f32) : FVec F S8x256 .f32 :=
  shapeCast S8x256 (addf d (pSum k q) : FVec F S8x256 .f32) shapeCasts_S8x256_S8x256
def oAcc (k v : Vec F S8x64x128 .bf16) (q : Vec F S8x256x64 .bf16) (o : Vec F S8x256x64 .f32) : FVec F S8x256x64 .f32 :=
  addf (shapeCast S8x256x64 o shapeCasts_S8x256x64_S8x256x64 : FVec F S8x256x64 .f32) (pOut k v q)
def oDiv (d : Vec F S8x256 .f32) (o : Vec F S8x256x64 .f32) : FVec F S8x256x64 .f32 :=
  mulf (shapeCast S8x256x64 o shapeCasts_S8x256x64_S8x256x64 : FVec F S8x256x64 .f32)
    (broadcastTo S8x256x64 (shapeCast S8x256x1 (divf (broadcast S8x256 (Scalar.ofBits .f32 0x3F800000#32 : F .f32)) d : FVec F S8x256 .f32) shapeCasts_S8x256_S8x256x1 : FVec F S8x256x1 .f32)
      broadcasts_S8x256x1_S8x256x64)

section
variable (q : Memref sig .tc .vmem S64x256x64 .bf16) (out : Memref sig .tc .vmem S64x256x64 .f32) (den : Memref sig .tc .vmem S64x256 .f32)

abbrev ldK (m : Memref sig .tc .vmem S64x64x128 .bf16) (g : Fin 8) : PK F (Vec F S8x64x128 .bf16) :=
  Prog.lift (.load m (rK g).toLoadRect (View.loadsAt_vmem h_S8x64x128))
abbrev ldQ (g : Fin 8) : PK F (Vec F S8x256x64 .bf16) := Prog.lift (.load q (rQ g).toLoadRect (View.loadsAt_vmem h_S8x256x64))
abbrev ldO (g : Fin 8) : PK F (Vec F S8x256x64 .f32) := Prog.lift (.load out (rQ g).toLoadRect (View.loadsAt_vmem h_S8x256x64))
abbrev ldD (g : Fin 8) : PK F (Vec F S8x256 .f32) := Prog.lift (.load den (rD g).toLoadRect (View.loadsAt_vmem h_S8x256))
abbrev stO (g : Fin 8) (x : Vec F S8x256x64 .f32) : PK F PUnit :=
  Prog.lift (.store out (rQ g) x Finset.univ (View.stores_vmem_bits_univ h_S8x256x64 rfl) (.inl rfl))
abbrev stD (g : Fin 8) (x : Vec F S8x256 .f32) : PK F PUnit :=
  Prog.lift (.store den (rD g) x Finset.univ (View.stores_vmem_bits_univ h_S8x256 rfl) (.inl rfl))

/-- The first half of a group's own keys: the sums start here. -/
def chunkFirst (k v : Memref sig .tc .vmem S64x64x128 .bf16) (g : Fin 8) : PK F PUnit := do
  let kx ← ldK k g
  let vx ← ldK v g
  let qx ← ldQ q g
  let _ ← ldD den g
  stD den g (dFirst (castK kx) qx)
  let _ ← ldO out g
  stO out g (pOut (castK kx) (castK vx) qx)

/-- Half of a device's keys added to a group's sums, the keys and values read through `w`. -/
def chunkAcc (w : Vec F S8x64x128 .bf16 → Vec F S8x64x128 .bf16) (k v : Memref sig .tc .vmem S64x64x128 .bf16) (g : Fin 8) : PK F PUnit := do
  let kx ← ldK k g
  let vx ← ldK v g
  let qx ← ldQ q g
  let d ← ldD den g
  let _ ← ldD den g
  stD den g (dAcc (w kx) qx d)
  let o ← ldO out g
  let _ ← ldO out g
  stO out g (oAcc (w kx) (w vx) qx o)

/-- A group's output divided by its denominators. -/
def chunkDiv (g : Fin 8) : PK F PUnit := do
  let d ← ldD den g
  let o ← ldO out g
  let _ ← ldO out g
  stO out g (oDiv d o)

/-- `f` at every group in order. -/
def groups (f : Fin 8 → PK F PUnit) : PK F PUnit := do
  f 0; f 1; f 2; f 3; f 4; f 5; f 6; f 7

def slotFirst (kA vA kB vB : Memref sig .tc .vmem S64x64x128 .bf16) : PK F PUnit :=
  groups fun g => do chunkFirst q out den kA vA g; chunkAcc q out den castK kB vB g
def slotAcc (kA vA kB vB : Memref sig .tc .vmem S64x64x128 .bf16) : PK F PUnit :=
  groups fun g => do chunkAcc q out den id kA vA g; chunkAcc q out den id kB vB g
end

/-- A remote copy of a block into slot `h` of a gathered buffer of device `d`. -/
abbrev copy (src : Memref sig .tc .vmem S64x64x128 .bf16) (hs : src.view.WordExact) (d : Dev nD) (dst : Memref sig .tc .vmem S3x64x64x128 .bf16)
    (hd : dst.IsWhole) (h : Fin 3) (ss rs : DmaSems sig S3) : PK F PUnit :=
  Prog.lift (.enqueueDma src (.remote (Dev.tc d) (slotM dst h) (.dma (semN ss h))) (.dma (semN rs h)) hs
    ((hd.wordExact_slice rfl _ (wordsS h)).reshape _ _) ⟨⟨rfl, Or.inl rfl⟩, trivial⟩)
/-- The copy's two waits: for the source to be read, for the block of the other neighbour to arrive. -/
abbrev copyWait (src : Memref sig .tc .vmem S64x64x128 .bf16) (hs : src.view.WordExact) (dst : Memref sig .tc .vmem S3x64x64x128 .bf16)
    (hd : dst.IsWhole) (h : Fin 3) (ss rs : DmaSems sig S3) : PK F PUnit := do
  Prog.lift (.waitDma2 (semN ss h) (slotM dst h) src ((hd.wordExact_slice rfl _ (wordsS h)).reshape _ _) hs)
  Prog.lift (.waitDma2 (semN rs h) src (slotM dst h) hs ((hd.wordExact_slice rfl _ (wordsS h)).reshape _ _))

section
variable (arg0 : Memref sig .tc .vmem S64x256x64 .bf16) (harg0 : arg0.IsWhole) (arg1 : Memref sig .tc .vmem S64x64x128 .bf16) (harg1 : arg1.IsWhole) (arg2 : Memref sig .tc .vmem S64x64x128 .bf16) (harg2 : arg2.IsWhole) (arg3 : Memref sig .tc .vmem S64x64x128 .bf16) (harg3 : arg3.IsWhole) (arg4 : Memref sig .tc .vmem S64x64x128 .bf16) (harg4 : arg4.IsWhole) (arg5 : Memref sig .tc .vmem S64x256x64 .f32) (harg5 : arg5.IsWhole) (arg6 : Memref sig .tc .vmem S3x64x64x128 .bf16) (harg6 : arg6.IsWhole) (arg7 : Memref sig .tc .vmem S3x64x64x128 .bf16) (harg7 : arg7.IsWhole) (arg8 : Memref sig .tc .vmem S3x64x64x128 .bf16) (harg8 : arg8.IsWhole) (arg9 : Memref sig .tc .vmem S3x64x64x128 .bf16) (harg9 : arg9.IsWhole) (arg10 : Memref sig .tc .vmem S64x256 .f32) (harg10 : arg10.IsWhole) (arg11 arg12 arg13 arg14 arg15 arg16 arg17 arg18 : DmaSems sig S3)

include harg6 in
theorem wordS (h : Fin 3) : (slotM arg6 h).view.WordExact := (harg6.wordExact_slice rfl _ (wordsS h)).reshape _ _

/-- The barrier, signalled on both neighbours. -/
def signals : PK F (Dev nD) := do
  let d0 : Dev nD ← Prog.lift .deviceId
  semSignalWord (⟨k0_dev1 d0, k0_dev1_lt d0⟩ : Dev nD) (SemArray.scalar (sig.barrier 0 rfl) : Sems sig S_).sem 1#32
  semSignalWord (⟨k0_dev2 d0, k0_dev2_lt d0⟩ : Dev nD) (SemArray.scalar (sig.barrier 0 rfl) : Sems sig S_).sem 1#32
  pure d0

/-- The four copies of hop 0, 1, 2. -/
def sends0 (d0 : Dev nD) : PK F PUnit := do
  copy arg1 harg1.wordExact ⟨k0_dev3 d0, k0_dev3_lt d0⟩ arg6 harg6 0 arg11 arg12
  copy arg3 harg3.wordExact ⟨k0_dev4 d0, k0_dev4_lt d0⟩ arg7 harg7 0 arg13 arg14
  copy arg2 harg2.wordExact ⟨k0_dev5 d0, k0_dev5_lt d0⟩ arg8 harg8 0 arg15 arg16
  copy arg4 harg4.wordExact ⟨k0_dev6 d0, k0_dev6_lt d0⟩ arg9 harg9 0 arg17 arg18
def sends1 (d0 : Dev nD) : PK F PUnit := do
  copy (slotM arg6 0) (wordS arg6 harg6 0) ⟨k0_dev7 d0, k0_dev7_lt d0⟩ arg6 harg6 1 arg11 arg12
  copy (slotM arg7 0) (wordS arg7 harg7 0) ⟨k0_dev8 d0, k0_dev8_lt d0⟩ arg7 harg7 1 arg13 arg14
  copy (slotM arg8 0) (wordS arg8 harg8 0) ⟨k0_dev9 d0, k0_dev9_lt d0⟩ arg8 harg8 1 arg15 arg16
  copy (slotM arg9 0) (wordS arg9 harg9 0) ⟨k0_dev10 d0, k0_dev10_lt d0⟩ arg9 harg9 1 arg17 arg18
def sends2 (d0 : Dev nD) : PK F PUnit := do
  copy (slotM arg6 1) (wordS arg6 harg6 1) ⟨k0_dev11 d0, k0_dev11_lt d0⟩ arg6 harg6 2 arg11 arg12
  copy (slotM arg7 1) (wordS arg7 harg7 1) ⟨k0_dev12 d0, k0_dev12_lt d0⟩ arg7 harg7 2 arg13 arg14
  copy (slotM arg8 1) (wordS arg8 harg8 1) ⟨k0_dev13 d0, k0_dev13_lt d0⟩ arg8 harg8 2 arg15 arg16
  copy (slotM arg9 1) (wordS arg9 harg9 1) ⟨k0_dev14 d0, k0_dev14_lt d0⟩ arg9 harg9 2 arg17 arg18
def waits0 : PK F PUnit := do
  copyWait arg1 harg1.wordExact arg6 harg6 0 arg11 arg12
  copyWait arg3 harg3.wordExact arg7 harg7 0 arg13 arg14
  copyWait arg2 harg2.wordExact arg8 harg8 0 arg15 arg16
  copyWait arg4 harg4.wordExact arg9 harg9 0 arg17 arg18
def waits1 (h h' : Fin 3) : PK F PUnit := do
  copyWait (slotM arg6 h) (wordS arg6 harg6 h) arg6 harg6 h' arg11 arg12
  copyWait (slotM arg7 h) (wordS arg7 harg7 h) arg7 harg7 h' arg13 arg14
  copyWait (slotM arg8 h) (wordS arg8 harg8 h) arg8 harg8 h' arg15 arg16
  copyWait (slotM arg9 h) (wordS arg9 harg9 h) arg9 harg9 h' arg17 arg18

/-- The whole function. -/
def body : PK F PUnit := do
  let d0 ← signals
  slotFirst arg0 arg5 arg10 arg1 arg3 arg2 arg4
  semWaitWord (SemArray.scalar (sig.barrier 0 rfl) : Sems sig S_).sem 2#32
  sends0 arg1 harg1 arg2 harg2 arg3 harg3 arg4 harg4 arg6 harg6 arg7 harg7 arg8 harg8 arg9 harg9 arg11 arg12 arg13 arg14 arg15 arg16 arg17 arg18 d0
  waits0 arg1 harg1 arg2 harg2 arg3 harg3 arg4 harg4 arg6 harg6 arg7 harg7 arg8 harg8 arg9 harg9 arg11 arg12 arg13 arg14 arg15 arg16 arg17 arg18
  sends1 arg6 harg6 arg7 harg7 arg8 harg8 arg9 harg9 arg11 arg12 arg13 arg14 arg15 arg16 arg17 arg18 d0
  slotAcc arg0 arg5 arg10 (slotM arg6 0) (slotM arg7 0) (slotM arg8 0) (slotM arg9 0)
  waits1 arg6 harg6 arg7 harg7 arg8 harg8 arg9 harg9 arg11 arg12 arg13 arg14 arg15 arg16 arg17 arg18 0 1
  sends2 arg6 harg6 arg7 harg7 arg8 harg8 arg9 harg9 arg11 arg12 arg13 arg14 arg15 arg16 arg17 arg18 d0
  slotAcc arg0 arg5 arg10 (slotM arg6 1) (slotM arg7 1) (slotM arg8 1) (slotM arg9 1)
  waits1 arg6 harg6 arg7 harg7 arg8 harg8 arg9 harg9 arg11 arg12 arg13 arg14 arg15 arg16 arg17 arg18 1 2
  slotAcc arg0 arg5 arg10 (slotM arg6 2) (slotM arg7 2) (slotM arg8 2) (slotM arg9 2)
  groups (chunkDiv arg5 arg10)

set_option maxRecDepth 65536 in
/-- The printed function is that program. -/
theorem cc0_body_eq :
    cc0_body (F := F) arg0 harg0 arg1 harg1 arg2 harg2 arg3 harg3 arg4 harg4 arg5 harg5 arg6 harg6 arg7 harg7 arg8 harg8 arg9 harg9 arg10 harg10 arg11 arg12 arg13 arg14 arg15 arg16 arg17 arg18
      = body arg0 arg1 harg1 arg2 harg2 arg3 harg3 arg4 harg4 arg5 arg6 harg6 arg7 harg7 arg8 harg8 arg9 harg9 arg10 arg11 arg12 arg13 arg14 arg15 arg16 arg17 arg18 := by chain_rfl
end

end Cert.KernelIdeal.Attn

end
-- ==== Proof.KiChunk.lean ====
/-
  What the pieces of the kernel do to the buffers they touch: a load reads the contents named by `holds` or by
  `holdsG`, a store replaces one head group's rows, and a slot of the computation updates every group's sums.
-/
module

public import proofs.«01_k».proof.Proof.KiShape
public import Idealize.ShloMosaic.Lib.Rounds
public import Idealize.ShloMosaic.Lib.Pipeline.Kit
public import Idealize.ShloMosaic.Lib.Tactic
public import Idealize.ShloMosaic.Lib.ViewIndex

@[expose] public section

noncomputable section

namespace Cert.KernelIdeal.Attn

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The ghost state: the staging rounds and the kernel's own. -/
abbrev UU : Type := UR sig nD τ × URounds (GSem nD τ sig) (Fin 2)
/-- The resources. -/
local notation "𝕄" => MT nD τ sig Unit (Elt F) ℕ UU ℕ
abbrev 𝒱₀ : Variants := Variants.none

section
variable (c : Dev nD) {s : Shape} {e : EltTy}

/-- Share `q` of the elements under `m`, which read `X`. -/
def holds (m : Memref sig .tc .vmem s e) (q : PosShare TreeShare) (X : s.Idx → Elt F e) : sProp 𝕄 :=
  iprop(∃ f : Buf (Elt F) (m.view.loc (c : Thread nD τ)), ⌜m.view.read (Elt F) f = X⌝ ∗ (m.view.loc (c : Thread nD τ) ↦[m.view.set]{q} f))

/-- All of `m`, where each rectangle `r g` reads `G g`. -/
def holdsG (m : Memref sig .tc .vmem s e) (r : Fin 8 → Rect s) (G : (g : Fin 8) → (r g).shape.Idx → Elt F e) : sProp 𝕄 :=
  iprop(∃ f : Buf (Elt F) (m.view.loc (c : Thread nD τ)), ⌜∀ g, (m.access (r g)).read (Elt F) f = G g⌝ ∗ (m.view.loc (c : Thread nD τ) ↦[m.view.set]{fullShare} f))

variable {c}

theorem wp_ld {m : Memref sig .tc .vmem s e} {q : PosShare TreeShare} {X : s.Idx → Elt F e} (r : Rect s) {hl : m.view.LoadsAt r.toLoadRect}
    {Q : (r.shape.Idx → Elt F e) → sProp 𝕄} :
    (holds c m q X : sProp 𝕄) ⊢ iprop((holds c m q X -∗ Q (fun x => X (r.emb x)))
      -∗ wp frame (wpE (defs₀ (F := F)) 𝒱₀ c none) Set.univ (Prog.lift (.load m r.toLoadRect hl)) Q) := by
  unfold holds Prog.lift
  iintro ⟨%f, %hf, H⟩ Hk
  iapply (wp_load_rect 𝒱₀ (c : Thread nD τ) none Set.univ (m := m) (r := r) (S := m.view.set) (View.set_slice_subset _ _)) $$ [H]
  · iexact H
  iintro H
  rw [wp_ret]
  rw [show (m.access r).read (Elt F) f = fun x => X (r.emb x) from by subst hf; rfl]
  imodintro
  iapply Hk
  iexists f
  isplitr
  · ipureintro; exact hf
  iexact H

theorem wp_ldG {m : Memref sig .tc .vmem s e} {r : Fin 8 → Rect s} {G : (g : Fin 8) → (r g).shape.Idx → Elt F e} (g : Fin 8)
    {hl : m.view.LoadsAt (r g).toLoadRect} {Q : ((r g).shape.Idx → Elt F e) → sProp 𝕄} :
    (holdsG c m r G : sProp 𝕄) ⊢ iprop((holdsG c m r G -∗ Q (G g))
      -∗ wp frame (wpE (defs₀ (F := F)) 𝒱₀ c none) Set.univ (Prog.lift (.load m (r g).toLoadRect hl)) Q) := by
  unfold holdsG Prog.lift
  iintro ⟨%f, %hf, H⟩ Hk
  iapply (wp_load_rect 𝒱₀ (c : Thread nD τ) none Set.univ (m := m) (r := r g) (S := m.view.set) (View.set_slice_subset _ _)) $$ [H]
  · iexact H
  iintro H
  rw [wp_ret, hf g]
  imodintro
  iapply Hk
  iexists f
  isplitr
  · ipureintro; exact hf
  iexact H

theorem wp_stG {m : Memref sig .tc .vmem s e} {r : Fin 8 → Rect s} {G : (g : Fin 8) → (r g).shape.Idx → Elt F e} (g : Fin 8)
    (hr : ∀ g g', g ≠ g' → Disjoint (r g).set (r g').set) (w : (r g).shape.Idx → Elt F e)
    {hx : (m.access (r g)).Stores Finset.univ} {hm} {Q : PUnit → sProp 𝕄} :
    (holdsG c m r G : sProp 𝕄) ⊢ iprop((holdsG c m r (Function.update G g w) -∗ Q ⟨⟩)
      -∗ wp frame (wpE (defs₀ (F := F)) 𝒱₀ c none) Set.univ (Prog.lift (.store m (r g) w Finset.univ hx hm)) Q) := by
  unfold holdsG Prog.lift
  iintro ⟨%f, %hf, H⟩ Hk
  iapply (wp_store 𝒱₀ (c : Thread nD τ) none Set.univ (m := m) (r := r g) (S := m.view.set) (View.set_slice_subset _ _)) $$ [H]
  · iexact H
  iintro H
  rw [wp_ret]
  imodintro
  iapply Hk
  iexists ((m.access (r g)).write (Elt F) f w Finset.univ)
  isplitr
  · ipureintro
    intro g'
    by_cases h : g' = g
    · subst h; rw [Function.update_self]; exact View.read_write_univ _ _
    · rw [Function.update_of_ne h, ← hf g']
      exact View.read_slice_write_slice_of_disjoint _ _ _ _ _ (by rw [View.setOn_univ]; exact View.disjoint_slice (hr _ _ h))
  iexact H
end

theorem disjQ : ∀ g g', g ≠ g' → Disjoint (rQ g).set (rQ g').set := fun g g' h =>
  Rect.unit_disjoint (0 : Fin 3) (by
    have : g.val ≠ g'.val := fun e => h (Fin.ext e)
    show 8 * g.val + 8 ≤ 8 * g'.val ∨ 8 * g'.val + 8 ≤ 8 * g.val
    omega)
theorem disjD : ∀ g g', g ≠ g' → Disjoint (rD g).set (rD g').set := fun g g' h =>
  Rect.unit_disjoint (0 : Fin 2) (by
    have : g.val ≠ g'.val := fun e => h (Fin.ext e)
    show 8 * g.val + 8 ≤ 8 * g'.val ∨ 8 * g'.val + 8 ≤ 8 * g.val
    omega)

/-! ### A group's sums -/

/-- Group `g` of a block of keys or values, and of the queries. -/
def grpK (X : S64x64x128.Idx → Elt F .bf16) (g : Fin 8) : Vec F S8x64x128 .bf16 := fun x => X ((rK g).emb x)
def grpQ (X : S64x256x64.Idx → Elt F .bf16) (g : Fin 8) : Vec F S8x256x64 .bf16 := fun x => X ((rQ g).emb x)

/-- A group's denominators and outputs. -/
abbrev DO (F : FTy → Type) : Type := Vec F S8x256 .f32 × Vec F S8x256x64 .f32

/-- The two accumulators hold `G`. -/
def acc (c : Dev nD) (out : Memref sig .tc .vmem S64x256x64 .f32) (den : Memref sig .tc .vmem S64x256 .f32) (G : Fin 8 → DO F) : sProp 𝕄 :=
  iprop(holdsG c den rD (fun g => (G g).1) ∗ holdsG c out rQ (fun g => (G g).2))

/-- Half of a device's keys `K` and values `V` start a group's sums, or are added to them. -/
def stepFirst (Q : S64x256x64.Idx → Elt F .bf16) (K V : S64x64x128.Idx → Elt F .bf16) (g : Fin 8) : DO F :=
  (dFirst (castK (grpK K g)) (grpQ Q g), pOut (castK (grpK K g)) (castK (grpK V g)) (grpQ Q g))
def stepAcc (w : Vec F S8x64x128 .bf16 → Vec F S8x64x128 .bf16) (Q : S64x256x64.Idx → Elt F .bf16) (K V : S64x64x128.Idx → Elt F .bf16)
    (g : Fin 8) (p : DO F) : DO F :=
  (dAcc (w (grpK K g)) (grpQ Q g) p.1, oAcc (w (grpK K g)) (w (grpK V g)) (grpQ Q g) p.2)
def stepDiv (p : DO F) : DO F := (p.1, oDiv p.1 p.2)

theorem update_pair {G : Fin 8 → DO F} {g : Fin 8} {p : DO F} :
    (fun i => ((Function.update G g p : Fin 8 → DO F) i).1) = Function.update (fun i => (G i).1) g p.1
      ∧ (fun i => ((Function.update G g p : Fin 8 → DO F) i).2) = Function.update (fun i => (G i).2) g p.2 := by
  constructor <;> funext i <;> by_cases h : i = g
  all_goals first
    | subst h; simp only [Function.update_self]
    | simp only [Function.update_of_ne h]

section
variable {c : Dev nD} {q : Memref sig .tc .vmem S64x256x64 .bf16} {out : Memref sig .tc .vmem S64x256x64 .f32} {den : Memref sig .tc .vmem S64x256 .f32}
  {k v : Memref sig .tc .vmem S64x64x128 .bf16} {sq sk sv : PosShare TreeShare} {Q : S64x256x64.Idx → Elt F .bf16} {K V : S64x64x128.Idx → Elt F .bf16}

theorem wp_chunkFirst (g : Fin 8) (G : Fin 8 → DO F) {R : PUnit → sProp 𝕄} :
    iprop(holds c q sq Q ∗ holds c k sk K ∗ holds c v sv V ∗ acc c out den G)
      ⊢ iprop(((holds c q sq Q ∗ holds c k sk K ∗ holds c v sv V ∗ acc c out den (Function.update G g (stepFirst Q K V g))) -∗ R ⟨⟩)
        -∗ wp frame (wpE (defs₀ (F := F)) 𝒱₀ c none) Set.univ (chunkFirst q out den k v g) R) := by
  unfold acc chunkFirst
  simp only [wp_bind, update_pair.1, update_pair.2]
  iintro ⟨Hq, Hk, Hv, HD, HO⟩ HR
  iapply (wp_ld (rK g)) $$ Hk; iintro Hk
  iapply (wp_ld (rK g)) $$ Hv; iintro Hv
  iapply (wp_ld (rQ g)) $$ Hq; iintro Hq
  iapply (wp_ldG g) $$ HD; iintro HD
  iapply (wp_stG g disjD) $$ HD; iintro HD
  iapply (wp_ldG g) $$ HO; iintro HO
  iapply (wp_stG g disjQ) $$ HO; iintro HO
  iapply HR
  isplitl [Hq]; · iexact Hq
  isplitl [Hk]; · iexact Hk
  isplitl [Hv]; · iexact Hv
  isplitl [HD]; · iexact HD
  iexact HO

theorem wp_chunkAcc (w : Vec F S8x64x128 .bf16 → Vec F S8x64x128 .bf16) (g : Fin 8) (G : Fin 8 → DO F) {R : PUnit → sProp 𝕄} :
    iprop(holds c q sq Q ∗ holds c k sk K ∗ holds c v sv V ∗ acc c out den G)
      ⊢ iprop(((holds c q sq Q ∗ holds c k sk K ∗ holds c v sv V ∗ acc c out den (Function.update G g (stepAcc w Q K V g (G g)))) -∗ R ⟨⟩)
        -∗ wp frame (wpE (defs₀ (F := F)) 𝒱₀ c none) Set.univ (chunkAcc q out den w k v g) R) := by
  unfold acc chunkAcc
  simp only [wp_bind, update_pair.1, update_pair.2]
  iintro ⟨Hq, Hk, Hv, HD, HO⟩ HR
  iapply (wp_ld (rK g)) $$ Hk; iintro Hk
  iapply (wp_ld (rK g)) $$ Hv; iintro Hv
  iapply (wp_ld (rQ g)) $$ Hq; iintro Hq
  iapply (wp_ldG g) $$ HD; iintro HD
  iapply (wp_ldG g) $$ HD; iintro HD
  iapply (wp_stG g disjD) $$ HD; iintro HD
  iapply (wp_ldG g) $$ HO; iintro HO
  iapply (wp_ldG g) $$ HO; iintro HO
  iapply (wp_stG g disjQ) $$ HO; iintro HO
  iapply HR
  isplitl [Hq]; · iexact Hq
  isplitl [Hk]; · iexact Hk
  isplitl [Hv]; · iexact Hv
  isplitl [HD]; · iexact HD
  iexact HO

theorem update_fst (G : Fin 8 → DO F) (g : Fin 8) : Function.update (fun i => (G i).1) g (G g).1 = fun i => (G i).1 :=
  Function.update_eq_self g _

theorem wp_chunkDiv (g : Fin 8) (G : Fin 8 → DO F) {R : PUnit → sProp 𝕄} :
    (acc c out den G : sProp 𝕄)
      ⊢ iprop((acc c out den (Function.update G g (stepDiv (G g))) -∗ R ⟨⟩)
        -∗ wp frame (wpE (defs₀ (F := F)) 𝒱₀ c none) Set.univ (chunkDiv out den g) R) := by
  unfold acc chunkDiv
  simp only [wp_bind, update_pair.1, update_pair.2]
  iintro ⟨HD, HO⟩ HR
  iapply (wp_ldG g) $$ HD; iintro HD
  iapply (wp_ldG g) $$ HO; iintro HO
  iapply (wp_ldG g) $$ HO; iintro HO
  iapply (wp_stG g disjQ) $$ HO; iintro HO
  iapply HR
  isplitl [HD]
  · unfold stepDiv; rw [update_fst]; iexact HD
  iexact HO

/-- The groups below `n` stepped. -/
def below (step : Fin 8 → DO F → DO F) (G : Fin 8 → DO F) (n : ℕ) : Fin 8 → DO F := fun g => if g.val < n then step g (G g) else G g

theorem below_succ (step : Fin 8 → DO F → DO F) (G : Fin 8 → DO F) (n : Fin 8) :
    Function.update (below step G n.val) n (step n (below step G n.val n)) = below step G (n.val + 1) := by
  funext i
  by_cases h : i = n
  · subst h
    rw [Function.update_self]
    unfold below
    rw [if_neg (lt_irrefl _), if_pos (Nat.lt_succ_self _)]
  · rw [Function.update_of_ne h]
    unfold below
    have : i.val ≠ n.val := fun e => h (Fin.ext e)
    by_cases hl : i.val < n.val
    · rw [if_pos hl, if_pos (by omega)]
    · rw [if_neg hl, if_neg (by omega)]

/-- A program run at every group in order steps every group. -/
theorem wp_groups (I : sProp 𝕄) (f : Fin 8 → PK F PUnit) (step : Fin 8 → DO F → DO F)
    (hf : ∀ (g : Fin 8) (G : Fin 8 → DO F) (R : PUnit → sProp 𝕄),
      iprop(I ∗ acc c out den G) ⊢ iprop(((I ∗ acc c out den (Function.update G g (step g (G g)))) -∗ R ⟨⟩)
        -∗ wp frame (wpE (defs₀ (F := F)) 𝒱₀ c none) Set.univ (f g) R))
    (G : Fin 8 → DO F) (R : PUnit → sProp 𝕄) :
    iprop(I ∗ acc c out den G) ⊢ iprop(((I ∗ acc c out den (fun g => step g (G g))) -∗ R ⟨⟩)
        -∗ wp frame (wpE (defs₀ (F := F)) 𝒱₀ c none) Set.univ (groups f) R) := by
  have h0 : G = below step G (0 : Fin 8).val := by funext i; exact (if_neg (Nat.not_lt_zero _)).symm
  have h8 : (fun g => step g (G g)) = below step G ((7 : Fin 8).val + 1) := by funext i; exact (if_pos i.isLt).symm
  have hs : ∀ (n : Fin 8) (R : PUnit → sProp 𝕄),
      iprop(I ∗ acc c out den (below step G n.val)) ⊢ iprop(((I ∗ acc c out den (below step G (n.val + 1))) -∗ R ⟨⟩)
        -∗ wp frame (wpE (defs₀ (F := F)) 𝒱₀ c none) Set.univ (f n) R) := fun n R => by
    rw [← below_succ]; exact hf n _ R
  rw [h8]
  conv_lhs => rw [h0]
  unfold groups
  simp only [wp_bind]
  have hn : ∀ n m : Fin 8, n.val + 1 = m.val → ∀ R : PUnit → sProp 𝕄,
      iprop(I ∗ acc c out den (below step G n.val)) ⊢ iprop(((I ∗ acc c out den (below step G m.val)) -∗ R ⟨⟩)
        -∗ wp frame (wpE (defs₀ (F := F)) 𝒱₀ c none) Set.univ (f n) R) := fun n m h R => h ▸ hs n R
  iintro H HR
  iapply (hn 0 1 rfl) $$ H; iintro H
  iapply (hn 1 2 rfl) $$ H; iintro H
  iapply (hn 2 3 rfl) $$ H; iintro H
  iapply (hn 3 4 rfl) $$ H; iintro H
  iapply (hn 4 5 rfl) $$ H; iintro H
  iapply (hn 5 6 rfl) $$ H; iintro H
  iapply (hn 6 7 rfl) $$ H; iintro H
  iapply (hs 7) $$ H; iintro H
  iapply HR
  iexact H
end

/-! ### A slot: both halves of one device's block -/

/-- The queries and the four blocks a slot reads. -/
def reads (c : Dev nD) (q : Memref sig .tc .vmem S64x256x64 .bf16) (kA vA kB vB : Memref sig .tc .vmem S64x64x128 .bf16) (sq s : PosShare TreeShare)
    (Q : S64x256x64.Idx → Elt F .bf16) (KA VA KB VB : S64x64x128.Idx → Elt F .bf16) : sProp 𝕄 :=
  iprop(holds c q sq Q ∗ holds c kA s KA ∗ holds c vA s VA ∗ holds c kB s KB ∗ holds c vB s VB)

section
variable {c : Dev nD} {q : Memref sig .tc .vmem S64x256x64 .bf16} {out : Memref sig .tc .vmem S64x256x64 .f32} {den : Memref sig .tc .vmem S64x256 .f32}
  {kA vA kB vB : Memref sig .tc .vmem S64x64x128 .bf16} {sq s : PosShare TreeShare} {Q : S64x256x64.Idx → Elt F .bf16}
  {KA VA KB VB : S64x64x128.Idx → Elt F .bf16}

theorem update_twice (G : Fin 8 → DO F) (g : Fin 8) (a : DO F) (b : DO F → DO F) :
    Function.update (Function.update G g a) g (b ((Function.update G g a : Fin 8 → DO F) g)) = Function.update G g (b a) := by
  rw [Function.update_self, Function.update_idem]

theorem wp_slotFirst (G : Fin 8 → DO F) (R : PUnit → sProp 𝕄) :
    iprop(reads c q kA vA kB vB sq s Q KA VA KB VB ∗ acc c out den G)
      ⊢ iprop(((reads c q kA vA kB vB sq s Q KA VA KB VB ∗ acc c out den (fun g => stepAcc castK Q KB VB g (stepFirst Q KA VA g))) -∗ R ⟨⟩)
        -∗ wp frame (wpE (defs₀ (F := F)) 𝒱₀ c none) Set.univ (slotFirst q out den kA vA kB vB) R) := by
  refine wp_groups _ _ (fun g _ => stepAcc castK Q KB VB g (stepFirst Q KA VA g)) (fun g G R => ?_) G R
  rw [wp_bind, ← update_twice G g (stepFirst Q KA VA g) (stepAcc castK Q KB VB g)]
  unfold reads
  iintro ⟨⟨Hq, HkA, HvA, HkB, HvB⟩, H⟩ HR
  iapply (wp_chunkFirst g G) $$ [Hq HkA HvA H]
  · isplitl [Hq]; · iexact Hq
    isplitl [HkA]; · iexact HkA
    isplitl [HvA]; · iexact HvA
    iexact H
  iintro ⟨Hq, HkA, HvA, H⟩
  iapply (wp_chunkAcc castK g _) $$ [Hq HkB HvB H]
  · isplitl [Hq]; · iexact Hq
    isplitl [HkB]; · iexact HkB
    isplitl [HvB]; · iexact HvB
    iexact H
  iintro ⟨Hq, HkB, HvB, H⟩
  iapply HR
  isplitr [H]
  · isplitl [Hq]; · iexact Hq
    isplitl [HkA]; · iexact HkA
    isplitl [HvA]; · iexact HvA
    isplitl [HkB]; · iexact HkB
    iexact HvB
  iexact H

theorem wp_slotAcc (G : Fin 8 → DO F) (R : PUnit → sProp 𝕄) :
    iprop(reads c q kA vA kB vB sq s Q KA VA KB VB ∗ acc c out den G)
      ⊢ iprop(((reads c q kA vA kB vB sq s Q KA VA KB VB ∗ acc c out den (fun g => stepAcc id Q KB VB g (stepAcc id Q KA VA g (G g)))) -∗ R ⟨⟩)
        -∗ wp frame (wpE (defs₀ (F := F)) 𝒱₀ c none) Set.univ (slotAcc q out den kA vA kB vB) R) := by
  refine wp_groups _ _ (fun g p => stepAcc id Q KB VB g (stepAcc id Q KA VA g p)) (fun g G R => ?_) G R
  rw [wp_bind, ← update_twice G g (stepAcc id Q KA VA g (G g)) (stepAcc id Q KB VB g)]
  unfold reads
  iintro ⟨⟨Hq, HkA, HvA, HkB, HvB⟩, H⟩ HR
  iapply (wp_chunkAcc id g G) $$ [Hq HkA HvA H]
  · isplitl [Hq]; · iexact Hq
    isplitl [HkA]; · iexact HkA
    isplitl [HvA]; · iexact HvA
    iexact H
  iintro ⟨Hq, HkA, HvA, H⟩
  iapply (wp_chunkAcc id g _) $$ [Hq HkB HvB H]
  · isplitl [Hq]; · iexact Hq
    isplitl [HkB]; · iexact HkB
    isplitl [HvB]; · iexact HvB
    iexact H
  iintro ⟨Hq, HkB, HvB, H⟩
  iapply HR
  isplitr [H]
  · isplitl [Hq]; · iexact Hq
    isplitl [HkA]; · iexact HkA
    isplitl [HvA]; · iexact HvA
    isplitl [HkB]; · iexact HkB
    iexact HvB
  iexact H

theorem wp_division (G : Fin 8 → DO F) (R : PUnit → sProp 𝕄) :
    (acc c out den G : sProp 𝕄)
      ⊢ iprop((acc c out den (fun g => stepDiv (G g)) -∗ R ⟨⟩)
        -∗ wp frame (wpE (defs₀ (F := F)) 𝒱₀ c none) Set.univ (groups (chunkDiv out den)) R) := by
  have h := wp_groups (c := c) (out := out) (den := den) iprop(emp) (chunkDiv out den) (fun _ p => stepDiv p) (fun g (G : Fin 8 → DO F) R => by
    iintro ⟨-, H⟩ HR
    iapply (wp_chunkDiv g G) $$ H
    iintro H
    iapply HR
    isplitr; · iempintro
    iexact H) G R
  iintro H HR
  iapply h $$ [H]
  · isplitr; · iempintro
    iexact H
  iintro ⟨-, H⟩
  iapply HR $$ H
end

end Cert.KernelIdeal.Attn

end
-- ==== Proof.KiProto.lean ====
/-
  The exchange of `KernelIdeal`: which device sends what to whom, on which semaphores, and what each semaphore hands
  its owner. Copies are numbered by the block they move (`X`: keys A, values A to the right neighbour; keys B,
  values B to the left neighbour) and the hop `h`. The blocks the devices start with are a parameter `B`.
-/
module

public import proofs.«01_k».proof.Proof.KiChunk
public import proofs.«01_k».proof.Proof.Gen.KernelIdeal.Launch

@[expose] public section

noncomputable section

namespace Cert.KernelIdeal.Attn

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev EP : Emb (UR sig nD τ) (MT nD τ sig Unit (Elt F) ℕ UU ℕ) := embL
abbrev ER : Emb (URounds (GSem nD τ sig) (Fin 2)) (MT nD τ sig Unit (Elt F) ℕ UU ℕ) := embR

/-! ### Neighbours -/

/-- The neighbour on the left (`0`) or on the right (`1`). -/
def nb (d : Fin 2) (c : Dev nD) : Dev nD := ⟨(c.val + (if d = 0 then 3 else 1)) % 4, Nat.mod_lt _ (by decide)⟩
def opp (d : Fin 2) : Fin 2 := if d = 0 then 1 else 0
theorem nb_opp (d : Fin 2) (c : Dev nD) : nb (opp d) (nb d c) = c := by revert d c; decide
theorem nb_opp' (d : Fin 2) (c : Dev nD) : nb d (nb (opp d) c) = c := by revert d c; decide
theorem opp_opp (d : Fin 2) : opp (opp d) = d := by revert d; decide
def nbEquiv (d : Fin 2) : Dev nD ≃ Dev nD := ⟨nb d, nb (opp d), nb_opp d, nb_opp' d⟩

/-- The way block `X` travels. -/
def dir (X : Fin 4) : Fin 2 := if X.val < 2 then 1 else 0
/-- Whom a device sends block `X` to, and whom it has it from. -/
abbrev dst (X : Fin 4) (c : Dev nD) : Dev nD := nb (dir X) c
abbrev src (X : Fin 4) (c : Dev nD) : Dev nD := nb (opp (dir X)) c
theorem src_dst (X : Fin 4) (c : Dev nD) : src X (dst X c) = c := nb_opp _ _

/-- The two blocks that travel a way. -/
def xA (d : Fin 2) : Fin 4 := if d = 0 then 2 else 0
def xB (d : Fin 2) : Fin 4 := if d = 0 then 3 else 1

/-! ### Buffers -/

abbrev qM : Memref sig .tc .vmem S64x256x64 .bf16 := win0_0.stage 0
abbrev outM : Memref sig .tc .vmem S64x256x64 .f32 := win0_5.stage 0
abbrev denM : Memref sig .tc .vmem S64x256 .f32 := Memref.whole cc0_scratch4
/-- The staged block `X`, and the buffer it is gathered in. -/
abbrev own : Fin 4 → Memref sig .tc .vmem S64x64x128 .bf16 := fun
  | 0 => win0_1.stage 0 | 1 => win0_3.stage 0 | 2 => win0_2.stage 0 | 3 => win0_4.stage 0
abbrev gat : Fin 4 → Memref sig .tc .vmem S3x64x64x128 .bf16 := fun
  | 0 => Memref.whole cc0_scratch0 | 1 => Memref.whole cc0_scratch1 | 2 => Memref.whole cc0_scratch2 | 3 => Memref.whole cc0_scratch3
/-- The source of hop `h`: the own block, then the slot the hop before filled. -/
abbrev srcM (X : Fin 4) : Fin 3 → Memref sig .tc .vmem S64x64x128 .bf16 := fun
  | 0 => own X | 1 => slotM (gat X) 0 | 2 => slotM (gat X) 1
abbrev dstM (X : Fin 4) (h : Fin 3) : Memref sig .tc .vmem S64x64x128 .bf16 := slotM (gat X) h

theorem own_whole (X : Fin 4) : (own X).IsWhole := by
  fin_cases X <;> exact Memref.isWhole_whole _
theorem gat_whole (X : Fin 4) : (gat X).IsWhole := by
  fin_cases X <;> exact Memref.isWhole_whole _
theorem srcM_word (X : Fin 4) (h : Fin 3) : (srcM X h).view.WordExact := by
  fin_cases h
  · exact (own_whole X).wordExact
  · exact wordS _ (gat_whole X) 0
  · exact wordS _ (gat_whole X) 1

/-! ### Semaphores -/

abbrev ssem : Fin 4 → DmaSems sig S3 := fun | 0 => cc0_scratch5 | 1 => cc0_scratch7 | 2 => cc0_scratch9 | 3 => cc0_scratch11
abbrev rsem : Fin 4 → DmaSems sig S3 := fun | 0 => cc0_scratch6 | 1 => cc0_scratch8 | 2 => cc0_scratch10 | 3 => cc0_scratch12
abbrev sS (X : Fin 4) (h : Fin 3) : DmaSem sig := semN (ssem X) h
abbrev rS' (X : Fin 4) (h : Fin 3) : DmaSem sig := semN (rsem X) h
abbrev barS : Sem sig := (SemArray.scalar (sig.barrier 0 rfl) : Sems sig S_).sem

abbrev barCell (c : Dev nD) : GSem nD τ sig := ((c : Thread nD τ), .reg barS)
abbrev sendCell (c : Dev nD) (X : Fin 4) (h : Fin 3) : GSem nD τ sig := ((c : Thread nD τ), .dma (sS X h))
abbrev recvCell (c : Dev nD) (X : Fin 4) (h : Fin 3) : GSem nD τ sig := ((c : Thread nD τ), .dma (rS' X h))

/-- Which copy a semaphore belongs to: `false` its source's, `true` its target's. -/
def decode (s : DmaSem sig) : Option (Bool × Fin 4 × Fin 3) :=
  if s.val < 6 then none
  else some (decide (3 ≤ s.val % 6), ⟨(s.val / 6 - 1) % 4, Nat.mod_lt _ (by decide)⟩, ⟨s.val % 3, Nat.mod_lt _ (by decide)⟩)
theorem decode_s : ∀ X h, decode (sS X h) = some (false, X, h) := by decide +kernel
theorem decode_r : ∀ X h, decode (rS' X h) = some (true, X, h) := by decide +kernel

/-- What every copy credits. -/
abbrev N : ℕ := (own 0).view.dmaCredit
theorem N_pos : 0 < N := View.dmaCredit_pos _ (by decide)
theorem credit_src (X : Fin 4) (h : Fin 3) : (srcM X h).view.dmaCredit = N := by
  fin_cases X <;> fin_cases h <;> rfl
theorem credit_dst (X : Fin 4) (h : Fin 3) : (dstM X h).view.dmaCredit = N := by
  fin_cases X <;> fin_cases h <;> rfl

/-! ### Contents -/

/-- The share lent to a copy and the share kept to read. -/
abbrev qL : PosShare TreeShare := (fullShare : PosShare TreeShare).left
abbrev qR : PosShare TreeShare := (fullShare : PosShare TreeShare).right

section
variable (B : Fin 4 → Dev nD → S64x64x128.Idx → Elt F .bf16)

/-- Block `X` on `c` after `n` hops. -/
def cont (X : Fin 4) : ℕ → Dev nD → S64x64x128.Idx → Elt F .bf16
  | 0, c => B X c
  | n + 1, c => cont X n (src X c)

theorem cont_dst (X : Fin 4) (n : ℕ) (c : Dev nD) : cont B X (n + 1) (dst X c) = cont B X n c := by
  show cont B X n (src X (dst X c)) = _
  rw [src_dst]

/-- Slot `h` of the gathered block `X` of device `p`, at some contents. -/
def slotAny (X : Fin 4) (h : Fin 3) (p : Dev nD) : sProp 𝕄 :=
  iprop(∃ f : Buf (Elt F) ((dstM X h).view.loc (p : Thread nD τ)), ((dstM X h).view.loc (p : Thread nD τ) ↦[(dstM X h).view.set]{fullShare} f))
/-- … with the news that the copy into it may start. -/
def landing (X : Fin 4) (h : Fin 3) (p : Dev nD) : sProp 𝕄 := iprop(slotAny X h p ∗ reached ER (recvCell p X h) 0)
def landing3 (X : Fin 4) (p : Dev nD) : sProp 𝕄 := iprop(landing X 0 p ∗ landing X 1 p ∗ landing X 2 p)
/-- What the neighbour `nb d c` hands device `c` with its barrier signal: the slots `c` is to fill. -/
def barPay (d : Fin 2) (c : Dev nD) : sProp 𝕄 := iprop(landing3 (xA d) (nb d c) ∗ landing3 (xB d) (nb d c))
/-- A copy hands its target the filled slot, and its source the share it read through. -/
def recvPay (c : Dev nD) (X : Fin 4) (h : Fin 3) : sProp 𝕄 := holds c (dstM X h) fullShare (cont B X (h.val + 1) c)
def sendPay (c : Dev nD) (X : Fin 4) (h : Fin 3) : sProp 𝕄 := holds c (srcM X h) qL (cont B X h.val c)

/-- The schedule: two units on a barrier, one copy on every other semaphore. -/
def rd : Rounds.Schedule (GSem nD τ sig) (Fin 2) 𝕄 where
  duties g r := if r = 0 ∧ g.1.2 = .tc then
      (match g.2 with
        | .reg s => if s = barS then Finset.univ else ∅
        | .dma s => if (decode s).isSome then {0} else ∅)
    else ∅
  unitless _ := False
  amount g _ _ := match g.2 with | .reg _ => 1 | .dma _ => N
  payload g _ d := match g.2 with
    | .reg _ => barPay d g.1.1
    | .dma s => match decode s with
      | none => iprop(emp)
      | some (false, X, h) => sendPay B g.1.1 X h
      | some (true, X, h) => recvPay B g.1.1 X h
  amount_pos g _ _ _ := by
    rcases g with ⟨_, s | s⟩
    · exact Nat.one_pos
    · exact N_pos

instance landing3_storable (X : Fin 4) (p : Dev nD) : BI.Storable (upEmb : UEmb _ 𝕄) (landing3 X p) := by
  unfold landing3 landing slotAny; infer_instance
instance barPay_storable (d : Fin 2) (c : Dev nD) : BI.Storable (upEmb : UEmb _ 𝕄) (barPay d c) := by
  unfold barPay; infer_instance

instance rd_storable (g : GSem nD τ sig) (r : ℕ) (d : Fin 2) : BI.Storable (upEmb : UEmb _ 𝕄) ((rd B).payload g r d) := by
  rcases g with ⟨t, s | s⟩
  · show BI.Storable upEmb (barPay d t.1)
    infer_instance
  · show BI.Storable upEmb (match decode s with
      | none => iprop(emp)
      | some (false, X, h) => sendPay B t.1 X h
      | some (true, X, h) => recvPay B t.1 X h)
    unfold sendPay recvPay holds
    split <;> infer_instance

theorem duties_bar (c : Dev nD) : (rd B).duties (barCell c) 0 = Finset.univ := by
  dsimp only [rd]; rw [if_pos ⟨rfl, rfl⟩]; exact if_pos rfl
theorem duties_send (c : Dev nD) (X : Fin 4) (h : Fin 3) : (rd B).duties (sendCell c X h) 0 = {0} := by
  dsimp only [rd]; rw [if_pos ⟨rfl, rfl⟩, decode_s]; rfl
theorem duties_recv (c : Dev nD) (X : Fin 4) (h : Fin 3) : (rd B).duties (recvCell c X h) 0 = {0} := by
  dsimp only [rd]; rw [if_pos ⟨rfl, rfl⟩, decode_r]; rfl
theorem duties_later (g : GSem nD τ sig) : ∀ r, 1 ≤ r → (rd B).duties g r = ∅ := fun r hr => by
  dsimp only [rd]; rw [if_neg (fun h => by omega)]

theorem expect_bar (c : Dev nD) : (rd B).expect (barCell c) 0 = 2 := by
  unfold Schedule.expect Schedule.amountOf; rw [duties_bar]; rfl
theorem expect_send (c : Dev nD) (X : Fin 4) (h : Fin 3) : (rd B).expect (sendCell c X h) 0 = N := by
  unfold Schedule.expect Schedule.amountOf; rw [duties_send, Finset.sum_singleton]; rfl
theorem expect_recv (c : Dev nD) (X : Fin 4) (h : Fin 3) : (rd B).expect (recvCell c X h) 0 = N := by
  unfold Schedule.expect Schedule.amountOf; rw [duties_recv, Finset.sum_singleton]; rfl

theorem payload_send (c : Dev nD) (X : Fin 4) (h : Fin 3) (d : Fin 2) : (rd B).payload (sendCell c X h) 0 d = sendPay B c X h := by
  dsimp only [rd]; rw [decode_s]
theorem payload_recv (c : Dev nD) (X : Fin 4) (h : Fin 3) (d : Fin 2) : (rd B).payload (recvCell c X h) 0 d = recvPay B c X h := by
  dsimp only [rd]; rw [decode_r]

theorem rest_bar (c : Dev nD) : bigSep ((rd B).duties (barCell c) 0 \ ∅) (fun u => (rd B).payload (barCell c) 0 u) = iprop(barPay 0 c ∗ barPay 1 c) := by
  rw [Finset.sdiff_empty, duties_bar]
  exact BI.bigSep_fin_two (fun d : Fin 2 => barPay d c)
theorem rest_send (c : Dev nD) (X : Fin 4) (h : Fin 3) :
    bigSep ((rd B).duties (sendCell c X h) 0 \ ∅) (fun u => (rd B).payload (sendCell c X h) 0 u) = sendPay B c X h := by
  rw [Finset.sdiff_empty, duties_send, bigSep_singleton, payload_send]
theorem rest_recv (c : Dev nD) (X : Fin 4) (h : Fin 3) :
    bigSep ((rd B).duties (recvCell c X h) 0 \ ∅) (fun u => (rd B).payload (recvCell c X h) 0 u) = recvPay B c X h := by
  rw [Finset.sdiff_empty, duties_recv, bigSep_singleton, payload_recv]

/-! ### What a device owes; the levels -/

/-- The copies `l` still to be sent. -/
def oweL (c : Dev nD) : List (Fin 4 × Fin 3) → CellTallies nD τ sig Unit
  | [] => 0
  | x :: l => oweL c l + tallyAt (recvCell (dst x.1 c) x.1 x.2) () N

abbrev hop (h : Fin 3) (l : List (Fin 4 × Fin 3)) : List (Fin 4 × Fin 3) := (0, h) :: (1, h) :: (2, h) :: (3, h) :: l
abbrev hops : List (Fin 4 × Fin 3) := hop 0 (hop 1 (hop 2 []))

/-- At launch: every copy, and a unit to each neighbour. -/
def O₀ (c : Dev nD) : CellTallies nD τ sig Unit := (oweL c hops + tallyAt (barCell (nb 1 c)) () 1) + tallyAt (barCell (nb 0 c)) () 1

def L (g : GSem nD τ sig) : Finset Unit := if g.1.2 = .tc then {()} else ∅
/-- Barriers below receive semaphores, those in the order of the hops. -/
def lv (g : GSem nD τ sig) (_ : Unit) : ℕ := match g.2 with
  | .reg _ => 1
  | .dma s => match decode s with
    | some (true, _, h) => h.val + 2
    | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := rfl
theorem lv_recv (c : Dev nD) (X : Fin 4) (h : Fin 3) (u : Unit) : lv (recvCell c X h) u = h.val + 2 := by
  dsimp only [lv]; rw [decode_r]
theorem lv_send (c : Dev nD) (X : Fin 4) (h : Fin 3) (u : Unit) : lv (sendCell c X h) u = 0 := by
  dsimp only [lv]; rw [decode_s]

theorem oweL_pos {c : Dev nD} {l : List (Fin 4 × Fin 3)} {g : GSem nD τ sig} {u : Unit} (h : 0 < oweL c l g u) :
    ∃ x ∈ l, g = recvCell (dst x.1 c) x.1 x.2 := by
  induction l with
  | nil => exact absurd h (Nat.lt_irrefl 0)
  | cons x l ih =>
    rw [oweL, Pi.add_apply, Finsupp.add_apply] at h
    rcases Nat.add_pos_iff_pos_or_pos.mp h with h | h
    · obtain ⟨y, hy, e⟩ := ih h
      exact ⟨y, List.mem_cons_of_mem _ hy, e⟩
    · rw [tallyAt_apply] at h
      split at h
      · next hg => exact ⟨x, List.mem_cons_self, hg.1⟩
      · exact absurd h (Nat.lt_irrefl 0)

theorem mayWait (c : Dev nD) (sm : SemLoc sig) (n : ℕ) (hn : ∀ u, lv ((c : Thread nD τ), sm) u ≤ n) (l : List (Fin 4 × Fin 3))
    (hl : ∀ x ∈ l, n < x.2.val + 2) :
    (levAts L lv : sProp 𝕄) ⊢ MayWait (c : Thread nD τ) sm () (oweL c l) :=
  MayOwe.of_cut (L := L) (lev := lv) n (fun p hp => by rw [Finset.mem_singleton.mp hp, L_tc]; exact Finset.mem_singleton_self _)
    (fun g u hg => by
      obtain ⟨x, -, rfl⟩ := oweL_pos hg
      rw [L_tc]; exact Finset.mem_singleton_self _)
    (fun p hp => by rw [Finset.mem_singleton.mp hp]; exact hn ())
    (fun g u hg => by
      obtain ⟨x, hx, rfl⟩ := oweL_pos hg
      rw [lv_recv]; exact hl x hx)

/-! ### The cells -/

/-- The kernel's own semaphores. -/
abbrev SK : Type := Bool × Fin 4 × Fin 3
abbrev osem : SK → SemLoc sig := fun k => .dma (bif k.1 then rS' k.2.1 k.2.2 else sS k.2.1 k.2.2)
theorem osem_decode (k : SK) : decode (bif k.1 then rS' k.2.1 k.2.2 else sS k.2.1 k.2.2) = some k := by
  obtain ⟨b, X, h⟩ := k
  cases b
  · exact decode_s X h
  · exact decode_r X h
theorem osem_inj : Function.Injective osem := fun k k' h => by
  have h' := SemLoc.dma.inj h
  have := (osem_decode k).symm.trans ((congrArg decode h').trans (osem_decode k'))
  exact Option.some.inj this
theorem osem_ne_bar (k : SK) : osem k ≠ .reg barS := fun h => by cases h

def barEmb : Dev nD ↪ GSem nD τ sig := ⟨fun c => barCell c, fun _ _ h => congrArg (fun g : GSem nD τ sig => g.1.1) h⟩
def scEmb : Dev nD × SK ↪ GSem nD τ sig :=
  ⟨fun ck => ((ck.1 : Thread nD τ), osem ck.2), fun _ _ h =>
    Prod.ext (congrArg (fun g : GSem nD τ sig => g.1.1) h) (osem_inj (congrArg Prod.snd h))⟩
abbrev barCells : Finset (GSem nD τ sig) := Finset.univ.map barEmb
abbrev scCells : Finset (GSem nD τ sig) := Finset.univ.map scEmb
abbrev allCells : Finset (GSem nD τ sig) := barCells ∪ scCells

theorem disjoint_cells : Disjoint (barCells : Finset (GSem nD τ sig)) scCells := by
  rw [Finset.disjoint_left]
  rintro g h₁ h₂
  obtain ⟨c, -, rfl⟩ := Finset.mem_map.mp h₁
  obtain ⟨ck, -, h⟩ := Finset.mem_map.mp h₂
  exact osem_ne_bar ck.2 (congrArg Prod.snd h)
theorem bar_mem (c : Dev nD) : barCell c ∈ (allCells : Finset (GSem nD τ sig)) :=
  Finset.mem_union_left _ (Finset.mem_map_of_mem barEmb (Finset.mem_univ c))
theorem send_mem (c : Dev nD) (X : Fin 4) (h : Fin 3) : sendCell c X h ∈ (allCells : Finset (GSem nD τ sig)) :=
  Finset.mem_union_right _ (Finset.mem_map_of_mem scEmb (Finset.mem_univ (c, (false, X, h))))
theorem recv_mem (c : Dev nD) (X : Fin 4) (h : Fin 3) : recvCell c X h ∈ (allCells : Finset (GSem nD τ sig)) :=
  Finset.mem_union_right _ (Finset.mem_map_of_mem scEmb (Finset.mem_univ (c, (true, X, h))))

/-- Every cell's invariant, and that round 0 of every barrier is reached. -/
def records (κ : GSem nD τ sig → ℕ) : sProp 𝕄 :=
  iprop((bigSep allCells fun g => cellInv ER (rd B) (κ g) g) ∗ bigSep barCells fun g => reached ER g 0)
instance records_persistent (κ : GSem nD τ sig → ℕ) : BI.Persistent (records B κ) := by unfold records; infer_instance

variable {B} {κ : GSem nD τ sig → ℕ}
theorem inv_at {g : GSem nD τ sig} (hg : g ∈ (allCells : Finset (GSem nD τ sig))) : records B κ ⊢ cellInv ER (rd B) (κ g) g := by
  unfold records
  iintro ⟨H, -⟩
  iapply (show (bigSep allCells fun g => (cellInv ER (rd B) (κ g) g : sProp 𝕄)) ⊢ cellInv ER (rd B) (κ g) g from bigSep_elim hg) $$ H
theorem reached_bar (c : Dev nD) : records B κ ⊢ (reached ER (barCell c) 0 : sProp 𝕄) := by
  unfold records
  iintro ⟨-, H⟩
  iapply (show (bigSep barCells fun g => (reached ER g 0 : sProp 𝕄)) ⊢ reached ER (barCell c) 0 from
    bigSep_elim (Finset.mem_map_of_mem barEmb (Finset.mem_univ c))) $$ H

theorem close {g : GSem nD τ sig} (hg : g ∈ (allCells : Finset (GSem nD τ sig))) :
    iprop(records B κ ∗ atPos ER g (0 + 1) ∅ 0) ⊢ (|={Set.univ}=> semVal g 0 : sProp 𝕄) := by
  iintro ⟨HR, Hat⟩
  iapply (Rounds.cell_close ER (rd B) (Set.mem_univ (κ g)) id (duties_later B g))
  isplitl [HR]; · iapply (inv_at hg) $$ HR
  iexact Hat
end

end Cert.KernelIdeal.Attn

end
-- ==== Proof.KiBody.lean ====
/-
  The kernel of `KernelIdeal` on one device: from the staged blocks, the slots it fills and the right to use its
  semaphores, it ends with the accumulators at `finG`, every buffer back and every semaphore at zero.
-/
module

public import proofs.«01_k».proof.Proof.KiProto

@[expose] public section

noncomputable section

namespace Cert.KernelIdeal.Attn

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ### Shares of a block -/

theorem holds_split {s : Shape} {e : EltTy} {c : Dev nD} {m : Memref sig .tc .vmem s e} {X : s.Idx → Elt F e} :
    (holds c m fullShare X : sProp 𝕄) ⊢ iprop(holds c m qL X ∗ holds c m qR X) := by
  unfold holds
  iintro ⟨%f, %hf, H⟩
  ihave H := (pointsTo_share (PosShare.mem_left_op_right fullShare)).1 $$ H
  icases H with ⟨H1, H2⟩
  isplitl [H1]
  · iexists f; isplitr; · ipureintro; exact hf
    iexact H1
  · iexists f; isplitr; · ipureintro; exact hf
    iexact H2

theorem holds_join {s : Shape} {e : EltTy} {c : Dev nD} {m : Memref sig .tc .vmem s e} {X : s.Idx → Elt F e} :
    iprop(holds c m qL X ∗ holds c m qR X) ⊢ (holds c m fullShare X : sProp 𝕄) := by
  unfold holds
  iintro ⟨⟨%f, %hf, H1⟩, ⟨%g, %hg, H2⟩⟩
  have e : (m.view.loc (c : Thread nD τ) ↦[m.view.set]{qR} g : sProp 𝕄) = (m.view.loc (c : Thread nD τ) ↦[m.view.set]{qR} f) :=
    pointsTo_congr (fun i hi => by
      obtain ⟨x, -, rfl⟩ := Finset.mem_map.mp hi
      have := congrFun (hg.trans hf.symm) x
      exact (cast_inj _).mp this)
  ihave H2 := (Entails.of_eq e) $$ H2
  iexists f
  isplitr; · ipureintro; exact hf
  iapply (pointsTo_share (PosShare.mem_left_op_right fullShare)).2
  isplitl [H1] <;> iassumption

/-- `P` at all four blocks. -/
def four (P : Fin 4 → sProp 𝕄) : sProp 𝕄 := iprop(P 0 ∗ P 1 ∗ P 2 ∗ P 3)

theorem four_mono {P Q : Fin 4 → sProp 𝕄} (h : ∀ X, P X ⊢ Q X) : four P ⊢ four Q := by
  unfold four
  iintro ⟨A0, A1, A2, A3⟩
  isplitl [A0]; · iapply (h 0) $$ A0
  isplitl [A1]; · iapply (h 1) $$ A1
  isplitl [A2]; · iapply (h 2) $$ A2
  iapply (h 3) $$ A3
theorem four_sep {P Q : Fin 4 → sProp 𝕄} : four (fun X => iprop(P X ∗ Q X)) ⊢ iprop(four P ∗ four Q) := by
  unfold four
  iintro ⟨⟨A0, B0⟩, ⟨A1, B1⟩, ⟨A2, B2⟩, ⟨A3, B3⟩⟩
  isplitl [A0 A1 A2 A3]
  · isplitl [A0]; · iexact A0
    isplitl [A1]; · iexact A1
    isplitl [A2] <;> iassumption
  · isplitl [B0]; · iexact B0
    isplitl [B1]; · iexact B1
    isplitl [B2] <;> iassumption
theorem four_unsep {P Q : Fin 4 → sProp 𝕄} : iprop(four P ∗ four Q) ⊢ four (fun X => iprop(P X ∗ Q X)) := by
  unfold four
  iintro ⟨⟨A0, A1, A2, A3⟩, B0, B1, B2, B3⟩
  isplitl [A0 B0]; · isplitl [A0] <;> iassumption
  isplitl [A1 B1]; · isplitl [A1] <;> iassumption
  isplitl [A2 B2]; · isplitl [A2] <;> iassumption
  isplitl [A3] <;> iassumption

/-- The device owes `O`. -/
def owing (c : Dev nD) (O : CellTallies nD τ sig Unit) : sProp 𝕄 := iprop(∃ W, owes (c : Thread nD τ) O W)

section
variable {B : Fin 4 → Dev nD → S64x64x128.Idx → Elt F .bf16} {κ : GSem nD τ sig → ℕ} {c : Dev nD}

/-! ### One copy -/

/-- What the sender of a copy brings beside the source and the target, and what it waits with. -/
def sTick (c : Dev nD) (h : Fin 3) (X : Fin 4) : sProp 𝕄 :=
  iprop(reached ER (sendCell c X h) 0 ∗ dutyTok ER (sendCell c X h) 0 0 ∗ dutyTok ER (recvCell (dst X c) X h) 0 0)
def wTick (c : Dev nD) (h : Fin 3) (X : Fin 4) : sProp 𝕄 :=
  iprop(cred (tallyAt (recvCell c X h) () N) ∗ atPos ER (sendCell c X h) 0 ∅ 0 ∗ atPos ER (recvCell c X h) 0 ∅ 0)
def credS (c : Dev nD) (h : Fin 3) (X : Fin 4) : sProp 𝕄 := cred (tallyAt (sendCell c X h) () N)
def zeros (c : Dev nD) (h : Fin 3) (X : Fin 4) : sProp 𝕄 := iprop(semVal (sendCell c X h) 0 ∗ semVal (recvCell c X h) 0)

theorem wp_copySend (X : Fin 4) (h : Fin 3) (l : List (Fin 4 × Fin 3)) {hs hd} {R : PUnit → sProp 𝕄} :
    iprop(records B κ ∗ holds c (srcM X h) qL (cont B X h.val c) ∗ landing X h (dst X c) ∗ sTick c h X ∗ owing c (oweL c ((X, h) :: l)))
      ⊢ iprop(((credS c h X ∗ owing c (oweL c l)) -∗ R ⟨⟩)
        -∗ wp frame (wpE (defs₀ (F := F)) 𝒱₀ c none) Set.univ (copy (srcM X h) hs (dst X c) (gat X) hd h (ssem X) (rsem X)) R) := by
  unfold holds landing slotAny sTick owing credS
  iintro ⟨#HR, ⟨%fs, %hfs, Hs⟩, ⟨⟨%fd, Hd⟩, Hrd⟩, ⟨Hrs, Hts, Htr⟩, ⟨%W, HO⟩⟩ HK
  iapply (Rounds.wp_send_pointsTo 𝒱₀ ER (rd B) (c : Thread nD τ) none (c' := (dst X c : Thread nD τ)) (src := srcM X h) (dst := dstM X h)
      (sS := .dma (sS X h)) (sem := .dma (rS' X h)) (q := qL) (fs := fs) (κ₁ := κ (sendCell c X h)) (κ₂ := κ (recvCell (dst X c) X h))
      (r₁ := 0) (r₂ := 0) (d₁ := 0) (d₂ := 0) (fd := fd)
      (by rw [duties_send]; exact Finset.mem_singleton_self _) (by rw [duties_recv]; exact Finset.mem_singleton_self _)
      () () N (credit_dst X h) rfl rfl (oweL c l) rfl (W := W)
      (by
        rw [payload_send]; unfold sendPay holds
        iintro H; iexists fs; isplitr; · ipureintro; exact hfs
        iexact H)
      (by
        rw [payload_recv]; unfold recvPay holds
        rw [cont_dst]
        iintro H; iexists ((dstM X h).view.write (Elt F) fd ((srcM X h).view.read (Elt F) fs) Finset.univ); isplitr; · ipureintro; exact (View.read_write_univ _ _).trans hfs
        iexact H)) $$ [Hs Hd HO Hts Hrs Htr Hrd]
  · isplitr; · iapply (inv_at (send_mem c X h)) $$ HR
    isplitr; · iapply (inv_at (recv_mem (dst X c) X h)) $$ HR
    isplitl [Hs]; · iexact Hs
    isplitl [Hd]; · iexact Hd
    isplitl [HO]; · iexact HO
    isplitl [Hts]; · iexact Hts
    isplitl [Hrs]; · iexact Hrs
    isplitl [Htr]; · iexact Htr
    iexact Hrd
  iintro ⟨HcS, HO⟩
  rw [wp_ret]
  imodintro
  iapply HK
  isplitl [HcS]; · iexact HcS
  iexists W; iexact HO

/-- Both waits of a copy. -/
def cwait (X : Fin 4) (h : Fin 3) : PK F PUnit := copyWait (srcM X h) (srcM_word X h) (gat X) (gat_whole X) h (ssem X) (rsem X)

theorem wp_copyWait (X : Fin 4) (h : Fin 3) (l : List (Fin 4 × Fin 3)) (hl : ∀ x ∈ l, h.val < x.2.val) {R : PUnit → sProp 𝕄} :
    iprop(records B κ ∗ levAts L lv ∗ credS c h X ∗ wTick c h X ∗ owing c (oweL c l))
      ⊢ iprop(((holds c (srcM X h) qL (cont B X h.val c) ∗ holds c (dstM X h) fullShare (cont B X (h.val + 1) c) ∗ zeros c h X ∗ owing c (oweL c l)) -∗ R ⟨⟩)
        -∗ wp frame (wpE (defs₀ (F := F)) 𝒱₀ c none) Set.univ (cwait X h) R) := by
  unfold credS wTick owing zeros cwait copyWait
  rw [wp_bind]
  iintro ⟨#HR, #Hlev, HcS, ⟨HcR, HaS, HaR⟩, ⟨%W, HO⟩⟩ HK
  iapply (Rounds.wp_wait_rest_token 𝒱₀ ER (rd B) (c : Thread nD τ) none (κ := κ (sendCell c X h))
      (wpE_waitDma2_eq (src := dstM X h) (dst := srcM X h) 𝒱₀ (c : Thread nD τ) none Set.univ) (Set.mem_univ _) () (O := oweL c l) (W := W) (R := 0) (m := 0) (T := ∅)
      ((Nat.zero_add _).trans ((credit_src X h).trans (expect_send B c X h).symm))) $$ [HcS HO HaS]
  · isplitr; · iapply (inv_at (send_mem c X h)) $$ HR
    isplitl [HcS]; · rw [credit_src]; iexact HcS
    isplitl [HO]; · iexact HO
    isplitr; · iapply (mayWait c (.dma (sS X h)) 0 (fun u => (lv_send c X h u).le) l (fun x _ => Nat.succ_pos _)); iexact Hlev
    iexact HaS
  iintro ⟨HO, HaS, -, Hpay⟩
  ihave Hsrc := (Entails.of_eq (rest_send B c X h)) $$ Hpay
  rw [wp_ret]
  imodintro
  iapply (Rounds.wp_wait_rest_token 𝒱₀ ER (rd B) (c : Thread nD τ) none (κ := κ (recvCell c X h))
      (wpE_waitDma2_eq (src := srcM X h) (dst := dstM X h) 𝒱₀ (c : Thread nD τ) none Set.univ) (Set.mem_univ _) () (O := oweL c l) (R := 0) (m := 0) (T := ∅)
      ((Nat.zero_add _).trans ((credit_dst X h).trans (expect_recv B c X h).symm))) $$ [HcR HO HaR]
  · isplitr; · iapply (inv_at (recv_mem c X h)) $$ HR
    isplitl [HcR]; · rw [credit_dst]; iexact HcR
    isplitl [HO]; · iexact HO
    isplitr
    · iapply (mayWait c (.dma (rS' X h)) (h.val + 2) (fun u => (lv_recv c X h u).le) l (fun x hx => Nat.add_lt_add_right (hl x hx) 2)); iexact Hlev
    iexact HaR
  iintro ⟨HO, HaR, -, Hpay⟩
  ihave Hdst := (Entails.of_eq (rest_recv B c X h)) $$ Hpay
  rw [wp_ret]
  imod (close (send_mem c X h)) $$ [HaS] with Hs0
  · isplitr; · iexact HR
    iexact HaS
  imod (close (recv_mem c X h)) $$ [HaR] with Hr0
  · isplitr; · iexact HR
    iexact HaR
  imodintro
  iapply HK
  unfold sendPay recvPay
  isplitl [Hsrc]; · iexact Hsrc
  isplitl [Hdst]; · iexact Hdst
  isplitl [Hs0 Hr0]; · isplitl [Hs0] <;> iassumption
  iexists _; iexact HO

/-! ### The four copies of a hop -/

/-- The copies of hop `h` sent, and waited for. -/
def sendsH (c : Dev nD) (h : Fin 3) : PK F PUnit := do
  copy (srcM 0 h) (srcM_word 0 h) (dst 0 c) (gat 0) (gat_whole 0) h (ssem 0) (rsem 0)
  copy (srcM 1 h) (srcM_word 1 h) (dst 1 c) (gat 1) (gat_whole 1) h (ssem 1) (rsem 1)
  copy (srcM 2 h) (srcM_word 2 h) (dst 2 c) (gat 2) (gat_whole 2) h (ssem 2) (rsem 2)
  copy (srcM 3 h) (srcM_word 3 h) (dst 3 c) (gat 3) (gat_whole 3) h (ssem 3) (rsem 3)
def waitsH (h : Fin 3) : PK F PUnit := do
  cwait 0 h
  cwait 1 h
  cwait 2 h
  cwait 3 h

theorem wp_sendsH (h : Fin 3) (l : List (Fin 4 × Fin 3)) {R : PUnit → sProp 𝕄} :
    iprop(records B κ ∗ four (fun X => holds c (srcM X h) qL (cont B X h.val c)) ∗ four (fun X => landing X h (dst X c)) ∗ four (sTick c h) ∗ owing c (oweL c (hop h l)))
      ⊢ iprop(((four (credS c h) ∗ owing c (oweL c l)) -∗ R ⟨⟩)
        -∗ wp frame (wpE (defs₀ (F := F)) 𝒱₀ c none) Set.univ (sendsH c h) R) := by
  unfold four sendsH
  simp only [wp_bind]
  iintro ⟨#HR, ⟨S0, S1, S2, S3⟩, ⟨D0, D1, D2, D3⟩, ⟨T0, T1, T2, T3⟩, HO⟩ HK
  iapply (wp_copySend 0 h ((1, h) :: (2, h) :: (3, h) :: l)) $$ [S0 D0 T0 HO]
  · isplitr; · iexact HR
    isplitl [S0]; · iexact S0
    isplitl [D0]; · iexact D0
    isplitl [T0] <;> iassumption
  iintro ⟨C0, HO⟩
  iapply (wp_copySend 1 h ((2, h) :: (3, h) :: l)) $$ [S1 D1 T1 HO]
  · isplitr; · iexact HR
    isplitl [S1]; · iexact S1
    isplitl [D1]; · iexact D1
    isplitl [T1] <;> iassumption
  iintro ⟨C1, HO⟩
  iapply (wp_copySend 2 h ((3, h) :: l)) $$ [S2 D2 T2 HO]
  · isplitr; · iexact HR
    isplitl [S2]; · iexact S2
    isplitl [D2]; · iexact D2
    isplitl [T2] <;> iassumption
  iintro ⟨C2, HO⟩
  iapply (wp_copySend 3 h l) $$ [S3 D3 T3 HO]
  · isplitr; · iexact HR
    isplitl [S3]; · iexact S3
    isplitl [D3]; · iexact D3
    isplitl [T3] <;> iassumption
  iintro ⟨C3, HO⟩
  iapply HK
  isplitr [HO]
  · isplitl [C0]; · iexact C0
    isplitl [C1]; · iexact C1
    isplitl [C2] <;> iassumption
  iexact HO

theorem wp_waitsH (h : Fin 3) (l : List (Fin 4 × Fin 3)) (hl : ∀ x ∈ l, h.val < x.2.val) {R : PUnit → sProp 𝕄} :
    iprop(records B κ ∗ levAts L lv ∗ four (credS c h) ∗ four (wTick c h) ∗ owing c (oweL c l))
      ⊢ iprop(((four (fun X => holds c (srcM X h) qL (cont B X h.val c)) ∗ four (fun X => holds c (dstM X h) fullShare (cont B X (h.val + 1) c))
          ∗ four (zeros c h) ∗ owing c (oweL c l)) -∗ R ⟨⟩)
        -∗ wp frame (wpE (defs₀ (F := F)) 𝒱₀ c none) Set.univ (waitsH h) R) := by
  unfold four waitsH
  simp only [wp_bind]
  iintro ⟨#HR, #Hlev, ⟨C0, C1, C2, C3⟩, ⟨T0, T1, T2, T3⟩, HO⟩ HK
  iapply (wp_copyWait 0 h l hl) $$ [C0 T0 HO]
  · isplitr; · iexact HR
    isplitr; · iexact Hlev
    isplitl [C0]; · iexact C0
    isplitl [T0] <;> iassumption
  iintro ⟨S0, D0, Z0, HO⟩
  iapply (wp_copyWait 1 h l hl) $$ [C1 T1 HO]
  · isplitr; · iexact HR
    isplitr; · iexact Hlev
    isplitl [C1]; · iexact C1
    isplitl [T1] <;> iassumption
  iintro ⟨S1, D1, Z1, HO⟩
  iapply (wp_copyWait 2 h l hl) $$ [C2 T2 HO]
  · isplitr; · iexact HR
    isplitr; · iexact Hlev
    isplitl [C2]; · iexact C2
    isplitl [T2] <;> iassumption
  iintro ⟨S2, D2, Z2, HO⟩
  iapply (wp_copyWait 3 h l hl) $$ [C3 T3 HO]
  · isplitr; · iexact HR
    isplitr; · iexact Hlev
    isplitl [C3]; · iexact C3
    isplitl [T3] <;> iassumption
  iintro ⟨S3, D3, Z3, HO⟩
  iapply HK
  isplitl [S0 S1 S2 S3]
  · isplitl [S0]; · iexact S0
    isplitl [S1]; · iexact S1
    isplitl [S2] <;> iassumption
  isplitl [D0 D1 D2 D3]
  · isplitl [D0]; · iexact D0
    isplitl [D1]; · iexact D1
    isplitl [D2] <;> iassumption
  isplitr [HO]
  · isplitl [Z0]; · iexact Z0
    isplitl [Z1]; · iexact Z1
    isplitl [Z2] <;> iassumption
  iexact HO

/-! ### The barrier -/

theorem barPay_intro (d : Fin 2) : iprop(landing3 (xA (opp d)) c ∗ landing3 (xB (opp d)) c) ⊢ (rd B).payload (barCell (nb d c)) 0 (opp d) := by
  show _ ⊢ barPay (opp d) (nb d c)
  unfold barPay; rw [nb_opp]

/-- What a device signals its neighbour `nb d c` with: the slots that neighbour is to fill. -/
theorem wp_barSignal (d : Fin 2) (O : CellTallies nD τ sig Unit) {R : PUnit → sProp 𝕄} :
    iprop(records B κ ∗ owing c (O + tallyAt (barCell (nb d c)) () 1) ∗ dutyTok ER (barCell (nb d c)) 0 (opp d)
        ∗ landing3 (xA (opp d)) c ∗ landing3 (xB (opp d)) c)
      ⊢ iprop((owing c O -∗ R ⟨⟩)
        -∗ wp frame (wpE (defs₀ (F := F)) 𝒱₀ c none) Set.univ (semSignalWord (nb d c) barS 1#32) R) := by
  unfold owing semSignalWord
  iintro ⟨#HR, ⟨%W, HO⟩, Ht, HA, HB⟩ HK
  iapply (Rounds.wp_signal 𝒱₀ ER (rd B) (c : Thread nD τ) none (dst := (nb d c : Thread nD τ)) (sem := barS) (r := 0) (d := opp d) (κ := κ (barCell (nb d c)))
      (by rw [duties_bar]; exact Finset.mem_univ _) rfl () O rfl) $$ [HO Ht HA HB]
  · isplitr; · iapply (inv_at (bar_mem (nb d c))) $$ HR
    isplitl [HO]; · iexact HO
    isplitl [Ht]; · iexact Ht
    isplitl [HA HB]
    · iapply barPay_intro
      isplitl [HA] <;> iassumption
    iapply (reached_bar (nb d c)) $$ HR
  iintro HO
  rw [wp_ret]
  imodintro
  iapply HK
  iexists W; iexact HO

theorem wp_barWait (l : List (Fin 4 × Fin 3)) {R : PUnit → sProp 𝕄} :
    iprop(records B κ ∗ levAts L lv ∗ cred (tallyAt (barCell c) () 2) ∗ atPos ER (barCell c) 0 ∅ 0 ∗ owing c (oweL c l))
      ⊢ iprop(((barPay 0 c ∗ barPay 1 c ∗ semVal (barCell c) 0 ∗ owing c (oweL c l)) -∗ R ⟨⟩)
        -∗ wp frame (wpE (defs₀ (F := F)) 𝒱₀ c none) Set.univ (semWaitWord barS 2#32) R) := by
  unfold owing semWaitWord
  iintro ⟨#HR, #Hlev, Hc, Ha, ⟨%W, HO⟩⟩ HK
  iapply (Rounds.wp_wait_rest_token 𝒱₀ ER (rd B) (c : Thread nD τ) none (κ := κ (barCell c))
      (wpE_semWait_eq 𝒱₀ (c : Thread nD τ) none Set.univ (k := 2)) (Set.mem_univ _) () (O := oweL c l) (W := W) (R := 0) (m := 0) (T := ∅)
      ((Nat.zero_add _).trans (expect_bar B c).symm)) $$ [Hc HO Ha]
  · isplitr; · iapply (inv_at (bar_mem c)) $$ HR
    isplitl [Hc]; · iexact Hc
    isplitl [HO]; · iexact HO
    isplitr; · iapply (mayWait c (.reg barS) 1 (fun u => (lv_bar c u).le) l (fun x _ => by omega)); iexact Hlev
    iexact Ha
  iintro ⟨HO, Ha, -, Hpay⟩
  ihave Hp := (Entails.of_eq (rest_bar B c)) $$ Hpay
  icases Hp with ⟨H0, H1⟩
  rw [wp_ret]
  imod (close (bar_mem c)) $$ [Ha] with Hb0
  · isplitr; · iexact HR
    iexact Ha
  imodintro
  iapply HK
  isplitl [H0]; · iexact H0
  isplitl [H1]; · iexact H1
  isplitl [Hb0]; · iexact Hb0
  iexists _; iexact HO
end

end Cert.KernelIdeal.Attn

end
-- ==== Proof.KiWhole.lean ====
/-
  The kernel of `KernelIdeal` on one device, whole: from the staged blocks, the slots to hand out and the right to use
  its semaphores to the accumulators at `finG`, every buffer back and every semaphore at zero.
-/
module

public import proofs.«01_k».proof.Proof.KiBody

@[expose] public section

noncomputable section

namespace Cert.KernelIdeal.Attn

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ### The values -/

section
variable (B : Fin 4 → Dev nD → S64x64x128.Idx → Elt F .bf16) (Q : S64x256x64.Idx → Elt F .bf16) (c : Dev nD)

/-- The sums over the device's own keys, and with those `n` hops away added. -/
def sum0 (g : Fin 8) : DO F := stepAcc castK Q (B 2 c) (B 3 c) g (stepFirst Q (B 0 c) (B 1 c) g)
def sumN (n : ℕ) (G : Fin 8 → DO F) (g : Fin 8) : DO F :=
  stepAcc id Q (cont B 2 n c) (cont B 3 n c) g (stepAcc id Q (cont B 0 n c) (cont B 1 n c) g (G g))
/-- What the kernel leaves. -/
def finG (g : Fin 8) : DO F := stepDiv (sumN B Q c 3 (sumN B Q c 2 (sumN B Q c 1 (sum0 B Q c))) g)
end

section
variable {B : Fin 4 → Dev nD → S64x64x128.Idx → Elt F .bf16} {Q : S64x256x64.Idx → Elt F .bf16} {κ : GSem nD τ sig → ℕ} {c : Dev nD}

/-! ### The four blocks together -/

/-- The own blocks, and the blocks in slot `h`, at share `q`. -/
def owns (B : Fin 4 → Dev nD → S64x64x128.Idx → Elt F .bf16) (c : Dev nD) (q : PosShare TreeShare) : sProp 𝕄 :=
  four fun X => holds c (own X) q (B X c)
def slots (B : Fin 4 → Dev nD → S64x64x128.Idx → Elt F .bf16) (c : Dev nD) (h : Fin 3) (q : PosShare TreeShare) : sProp 𝕄 :=
  four fun X => holds c (dstM X h) q (cont B X (h.val + 1) c)
def queries (c : Dev nD) (Q : S64x256x64.Idx → Elt F .bf16) : sProp 𝕄 := holds c qM fullShare Q

/-- The sources of a hop are the own blocks, or the slots of the hop before. -/
theorem lent_zero : (four fun X => holds c (srcM X 0) qL (cont B X (0 : Fin 3).val c) : sProp 𝕄) = owns B c qL := rfl
theorem lent_one : (four fun X => holds c (srcM X 1) qL (cont B X (1 : Fin 3).val c) : sProp 𝕄) = slots B c 0 qL := rfl
theorem lent_two : (four fun X => holds c (srcM X 2) qL (cont B X (2 : Fin 3).val c) : sProp 𝕄) = slots B c 1 qL := rfl

theorem slots_eq (h : Fin 3) : (four fun X => holds c (dstM X h) fullShare (cont B X (h.val + 1) c) : sProp 𝕄) = slots B c h fullShare := rfl

theorem owns_split : owns B c fullShare ⊢ iprop(owns B c qL ∗ owns B c qR) := (four_mono fun _ => holds_split).trans four_sep
theorem owns_join : iprop(owns B c qL ∗ owns B c qR) ⊢ owns B c fullShare := four_unsep.trans (four_mono fun _ => holds_join)
theorem slots_split (h : Fin 3) : slots B c h fullShare ⊢ iprop(slots B c h qL ∗ slots B c h qR) := (four_mono fun _ => holds_split).trans four_sep
theorem slots_join (h : Fin 3) : iprop(slots B c h qL ∗ slots B c h qR) ⊢ slots B c h fullShare := four_unsep.trans (four_mono fun _ => holds_join)

/-- A filled slot is a slot at some contents. -/
theorem slots_any (h : Fin 3) : slots B c h fullShare ⊢ four (fun X => slotAny X h c) := four_mono fun X => by
  unfold holds slotAny
  iintro ⟨%f, -, H⟩
  iexists f; iexact H

/-- What the barrier brings: the slots of the neighbours. -/
theorem landings_of_bar : iprop(barPay 0 c ∗ barPay 1 c)
    ⊢ (iprop(four (fun X => landing X 0 (dst X c)) ∗ four (fun X => landing X 1 (dst X c)) ∗ four (fun X => landing X 2 (dst X c))) : sProp 𝕄) := by
  show iprop((landing3 2 (dst 2 c) ∗ landing3 3 (dst 3 c)) ∗ landing3 0 (dst 0 c) ∗ landing3 1 (dst 1 c)) ⊢ _
  unfold landing3 four
  iintro ⟨⟨⟨A2, B2, C2⟩, A3, B3, C3⟩, ⟨A0, B0, C0⟩, A1, B1, C1⟩
  isplitl [A0 A1 A2 A3]
  · isplitl [A0]; · iexact A0
    isplitl [A1]; · iexact A1
    isplitl [A2] <;> iassumption
  isplitl [B0 B1 B2 B3]
  · isplitl [B0]; · iexact B0
    isplitl [B1]; · iexact B1
    isplitl [B2] <;> iassumption
  · isplitl [C0]; · iexact C0
    isplitl [C1]; · iexact C1
    isplitl [C2] <;> iassumption

/-! ### The parts of the program -/

theorem wp_own (G : Fin 8 → DO F) (R : PUnit → sProp 𝕄) :
    iprop((queries c Q ∗ owns B c fullShare) ∗ acc c outM denM G)
      ⊢ iprop((((queries c Q ∗ owns B c fullShare) ∗ acc c outM denM (sum0 B Q c)) -∗ R ⟨⟩)
        -∗ wp frame (wpE (defs₀ (F := F)) 𝒱₀ c none) Set.univ (slotFirst qM outM denM (own 0) (own 1) (own 2) (own 3)) R) :=
  wp_slotFirst (q := qM) (out := outM) (den := denM) (kA := own 0) (vA := own 1) (kB := own 2) (vB := own 3) (sq := fullShare) (s := fullShare)
    (Q := Q) (KA := B 0 c) (VA := B 1 c) (KB := B 2 c) (VB := B 3 c) G R

theorem wp_slot (h : Fin 3) (s : PosShare TreeShare) (G : Fin 8 → DO F) (R : PUnit → sProp 𝕄) :
    iprop((queries c Q ∗ slots B c h s) ∗ acc c outM denM G)
      ⊢ iprop((((queries c Q ∗ slots B c h s) ∗ acc c outM denM (sumN B Q c (h.val + 1) G)) -∗ R ⟨⟩)
        -∗ wp frame (wpE (defs₀ (F := F)) 𝒱₀ c none) Set.univ (slotAcc qM outM denM (dstM 0 h) (dstM 1 h) (dstM 2 h) (dstM 3 h)) R) :=
  wp_slotAcc (q := qM) (out := outM) (den := denM) (kA := dstM 0 h) (vA := dstM 1 h) (kB := dstM 2 h) (vB := dstM 3 h) (sq := fullShare) (s := s)
    (Q := Q) (KA := cont B 0 (h.val + 1) c) (VA := cont B 1 (h.val + 1) c) (KB := cont B 2 (h.val + 1) c) (VB := cont B 3 (h.val + 1) c) G R

/-- The slots a device hands out, and the tokens it signals its neighbours with. -/
def handOut (c : Dev nD) : sProp 𝕄 := iprop((landing3 0 c ∗ landing3 1 c) ∗ landing3 2 c ∗ landing3 3 c)
def barToks (c : Dev nD) : sProp 𝕄 := iprop(dutyTok ER (barCell (nb 0 c)) 0 1 ∗ dutyTok ER (barCell (nb 1 c)) 0 0)

theorem dev1 (c : Dev nD) : (⟨k0_dev1 c, k0_dev1_lt c⟩ : Dev nD) = nb 0 c := by revert c; decide
theorem dev2 (c : Dev nD) : (⟨k0_dev2 c, k0_dev2_lt c⟩ : Dev nD) = nb 1 c := by revert c; decide

theorem wp_signals {R : Dev nD → sProp 𝕄} :
    iprop(records B κ ∗ handOut c ∗ barToks c ∗ owing c (O₀ c))
      ⊢ iprop((owing c (oweL c hops) -∗ R c) -∗ wp frame (wpE (defs₀ (F := F)) 𝒱₀ c none) Set.univ signals R) := by
  unfold signals Prog.lift
  simp only [wp_bind, wp_deviceId, wp_ret, dev1, dev2]
  unfold handOut barToks O₀
  iintro ⟨#HR, ⟨⟨L0, L1⟩, L2, L3⟩, ⟨T0, T1⟩, HO⟩ HK
  imodintro
  iapply (wp_barSignal 0 (oweL c hops + tallyAt (barCell (nb 1 c)) () 1)) $$ [HO T0 L0 L1]
  · isplitr; · iexact HR
    isplitl [HO]; · iexact HO
    isplitl [T0]; · iexact T0
    isplitl [L0]; · iexact L0
    iexact L1
  iintro HO
  iapply (wp_barSignal 1 (oweL c hops)) $$ [HO T1 L2 L3]
  · isplitr; · iexact HR
    isplitl [HO]; · iexact HO
    isplitl [T1]; · iexact T1
    isplitl [L2]; · iexact L2
    iexact L3
  iintro HO
  rw [show (Pure.pure c : PK F (Dev nD)) = .ret c from rfl, wp_ret]
  imodintro
  iapply HK $$ HO

theorem sends0_eq (d : Dev nD) : sends0 (F := F) (own 0) (own_whole 0) (own 2) (own_whole 2) (own 1) (own_whole 1) (own 3) (own_whole 3)
    (gat 0) (gat_whole 0) (gat 1) (gat_whole 1) (gat 2) (gat_whole 2) (gat 3) (gat_whole 3)
    (ssem 0) (rsem 0) (ssem 1) (rsem 1) (ssem 2) (rsem 2) (ssem 3) (rsem 3) d = sendsH d 0 := by
  have e3 : (⟨k0_dev3 d, k0_dev3_lt d⟩ : Dev nD) = dst 0 d := by revert d; decide
  have e4 : (⟨k0_dev4 d, k0_dev4_lt d⟩ : Dev nD) = dst 1 d := by revert d; decide
  have e5 : (⟨k0_dev5 d, k0_dev5_lt d⟩ : Dev nD) = dst 2 d := by revert d; decide
  have e6 : (⟨k0_dev6 d, k0_dev6_lt d⟩ : Dev nD) = dst 3 d := by revert d; decide
  unfold sends0
  rw [e3, e4, e5, e6]
  rfl
theorem sends1_eq (d : Dev nD) : sends1 (F := F)
    (gat 0) (gat_whole 0) (gat 1) (gat_whole 1) (gat 2) (gat_whole 2) (gat 3) (gat_whole 3)
    (ssem 0) (rsem 0) (ssem 1) (rsem 1) (ssem 2) (rsem 2) (ssem 3) (rsem 3) d = sendsH d 1 := by
  have e3 : (⟨k0_dev7 d, k0_dev7_lt d⟩ : Dev nD) = dst 0 d := by revert d; decide
  have e4 : (⟨k0_dev8 d, k0_dev8_lt d⟩ : Dev nD) = dst 1 d := by revert d; decide
  have e5 : (⟨k0_dev9 d, k0_dev9_lt d⟩ : Dev nD) = dst 2 d := by revert d; decide
  have e6 : (⟨k0_dev10 d, k0_dev10_lt d⟩ : Dev nD) = dst 3 d := by revert d; decide
  unfold sends1
  rw [e3, e4, e5, e6]
  rfl
theorem sends2_eq (d : Dev nD) : sends2 (F := F)
    (gat 0) (gat_whole 0) (gat 1) (gat_whole 1) (gat 2) (gat_whole 2) (gat 3) (gat_whole 3)
    (ssem 0) (rsem 0) (ssem 1) (rsem 1) (ssem 2) (rsem 2) (ssem 3) (rsem 3) d = sendsH d 2 := by
  have e3 : (⟨k0_dev11 d, k0_dev11_lt d⟩ : Dev nD) = dst 0 d := by revert d; decide
  have e4 : (⟨k0_dev12 d, k0_dev12_lt d⟩ : Dev nD) = dst 1 d := by revert d; decide
  have e5 : (⟨k0_dev13 d, k0_dev13_lt d⟩ : Dev nD) = dst 2 d := by revert d; decide
  have e6 : (⟨k0_dev14 d, k0_dev14_lt d⟩ : Dev nD) = dst 3 d := by revert d; decide
  unfold sends2
  rw [e3, e4, e5, e6]
  rfl
theorem waits0_eq : waits0 (F := F) (own 0) (own_whole 0) (own 2) (own_whole 2) (own 1) (own_whole 1) (own 3) (own_whole 3)
    (gat 0) (gat_whole 0) (gat 1) (gat_whole 1) (gat 2) (gat_whole 2) (gat 3) (gat_whole 3)
    (ssem 0) (rsem 0) (ssem 1) (rsem 1) (ssem 2) (rsem 2) (ssem 3) (rsem 3) = waitsH 0 := rfl
theorem waits1_eq : waits1 (F := F)
    (gat 0) (gat_whole 0) (gat 1) (gat_whole 1) (gat 2) (gat_whole 2) (gat 3) (gat_whole 3)
    (ssem 0) (rsem 0) (ssem 1) (rsem 1) (ssem 2) (rsem 2) (ssem 3) (rsem 3) 0 1 = waitsH 1 := rfl
theorem waits2_eq : waits1 (F := F)
    (gat 0) (gat_whole 0) (gat 1) (gat_whole 1) (gat 2) (gat_whole 2) (gat 3) (gat_whole 3)
    (ssem 0) (rsem 0) (ssem 1) (rsem 1) (ssem 2) (rsem 2) (ssem 3) (rsem 3) 1 2 = waitsH 2 := rfl

/-! ### The whole -/

/-- What the program needs, and what it leaves. -/
def startC (c : Dev nD) : sProp 𝕄 :=
  iprop(handOut c ∗ barToks c ∗ (cred (tallyAt (barCell c) () 2) ∗ atPos ER (barCell c) 0 ∅ 0)
    ∗ (four (sTick c 0) ∗ four (wTick c 0)) ∗ (four (sTick c 1) ∗ four (wTick c 1)) ∗ four (sTick c 2) ∗ four (wTick c 2))
def endC (c : Dev nD) : sProp 𝕄 :=
  iprop(semVal (barCell c) 0 ∗ (four (zeros c 0) ∗ four (zeros c 1) ∗ four (zeros c 2))
    ∗ four (fun X => slotAny X 0 c) ∗ four (fun X => slotAny X 1 c) ∗ four (fun X => slotAny X 2 c))

theorem below_hop {h : ℕ} {k : Fin 3} {l : List (Fin 4 × Fin 3)} (hk : h < k.val) (hl : ∀ x ∈ l, h < x.2.val) : ∀ x ∈ hop k l, h < x.2.val := by
  intro x hx
  simp only [hop, List.mem_cons] at hx
  rcases hx with rfl | rfl | rfl | rfl | hx
  · exact hk
  · exact hk
  · exact hk
  · exact hk
  · exact hl x hx

theorem wp_whole (G : Fin 8 → DO F) (R : PUnit → sProp 𝕄) :
    iprop(records B κ ∗ levAts L lv ∗ startC c ∗ queries c Q ∗ owns B c fullShare ∗ acc c outM denM G ∗ owing c (O₀ c))
      ⊢ iprop(((endC c ∗ queries c Q ∗ owns B c fullShare ∗ acc c outM denM (finG B Q c) ∗ owing c 0) -∗ R ⟨⟩)
        -∗ wp frame (wpE (defs₀ (F := F)) 𝒱₀ c none) Set.univ
          (body qM (own 0) (own_whole 0) (own 2) (own_whole 2) (own 1) (own_whole 1) (own 3) (own_whole 3) outM
            (gat 0) (gat_whole 0) (gat 1) (gat_whole 1) (gat 2) (gat_whole 2) (gat 3) (gat_whole 3) denM
            (ssem 0) (rsem 0) (ssem 1) (rsem 1) (ssem 2) (rsem 2) (ssem 3) (rsem 3)) R) := by
  unfold body
  rw [wp_bind]
  unfold startC endC
  iintro ⟨#HR, #Hlev, ⟨Hh, Ht, ⟨HcB, HaB⟩, ⟨S0, W0⟩, ⟨S1, W1⟩, S2, W2⟩, Hq, Ho, Ha, HO⟩ HK
  iapply (wp_signals (B := B) (κ := κ)) $$ [Hh Ht HO]
  · isplitr; · iexact HR
    isplitl [Hh]; · iexact Hh
    isplitl [Ht] <;> iassumption
  iintro HO
  rw [sends0_eq, sends1_eq, sends2_eq, waits0_eq, waits1_eq, waits2_eq]
  simp only [wp_bind]
  iapply (wp_own (B := B) (Q := Q) G) $$ [Hq Ho Ha]
  · isplitr [Ha]
    · isplitl [Hq] <;> iassumption
    iexact Ha
  iintro ⟨⟨Hq, Ho⟩, Ha⟩
  iapply (wp_barWait (B := B) (κ := κ) hops) $$ [HcB HaB HO]
  · isplitr; · iexact HR
    isplitr; · iexact Hlev
    isplitl [HcB]; · iexact HcB
    isplitl [HaB] <;> iassumption
  iintro ⟨P0, P1, Hb0, HO⟩
  ihave HL := (landings_of_bar (c := c)) $$ [P0 P1]
  · isplitl [P0] <;> iassumption
  icases HL with ⟨L0, L1, L2⟩
  -- hop 0
  ihave Ho := owns_split $$ Ho
  icases Ho with ⟨Hl, Ho⟩
  iapply (wp_sendsH (B := B) (κ := κ) 0 (hop 1 (hop 2 []))) $$ [Hl L0 S0 HO]
  · isplitr; · iexact HR
    isplitl [Hl]; · iapply (Entails.of_eq (lent_zero (B := B) (c := c)).symm) $$ Hl
    isplitl [L0]; · iexact L0
    isplitl [S0] <;> iassumption
  iintro ⟨C0, HO⟩
  iapply (wp_waitsH (B := B) (κ := κ) 0 (hop 1 (hop 2 [])) (below_hop (by decide) (below_hop (by decide) (by simp)))) $$ [C0 W0 HO]
  · isplitr; · iexact HR
    isplitr; · iexact Hlev
    isplitl [C0]; · iexact C0
    isplitl [W0] <;> iassumption
  iintro ⟨Hl, Hs, Z0, HO⟩
  ihave Hl := (Entails.of_eq (lent_zero (B := B) (c := c))) $$ Hl
  ihave Ho := owns_join $$ [Hl Ho]
  · isplitl [Hl] <;> iassumption
  -- hop 1, and the keys of hop 0
  ihave Hs := (Entails.of_eq (slots_eq (B := B) (c := c) 0)) $$ Hs
  ihave Hs := (slots_split (B := B) 0) $$ Hs
  icases Hs with ⟨Hl, Hs⟩
  iapply (wp_sendsH (B := B) (κ := κ) 1 (hop 2 [])) $$ [Hl L1 S1 HO]
  · isplitr; · iexact HR
    isplitl [Hl]; · iapply (Entails.of_eq (lent_one (B := B) (c := c)).symm) $$ Hl
    isplitl [L1]; · iexact L1
    isplitl [S1] <;> iassumption
  iintro ⟨C1, HO⟩
  iapply (wp_slot (B := B) (Q := Q) 0 qR _) $$ [Hq Hs Ha]
  · isplitr [Ha]
    · isplitl [Hq] <;> iassumption
    iexact Ha
  iintro ⟨⟨Hq, Hs⟩, Ha⟩
  iapply (wp_waitsH (B := B) (κ := κ) 1 (hop 2 []) (below_hop (by decide) (by simp))) $$ [C1 W1 HO]
  · isplitr; · iexact HR
    isplitr; · iexact Hlev
    isplitl [C1]; · iexact C1
    isplitl [W1] <;> iassumption
  iintro ⟨Hl, Hs1, Z1, HO⟩
  ihave Hl := (Entails.of_eq (lent_one (B := B) (c := c))) $$ Hl
  ihave Hs0 := (slots_join (B := B) 0) $$ [Hl Hs]
  · isplitl [Hl] <;> iassumption
  -- hop 2, and the keys of hop 1
  ihave Hs1 := (Entails.of_eq (slots_eq (B := B) (c := c) 1)) $$ Hs1
  ihave Hs1 := (slots_split (B := B) 1) $$ Hs1
  icases Hs1 with ⟨Hl, Hs⟩
  iapply (wp_sendsH (B := B) (κ := κ) 2 []) $$ [Hl L2 S2 HO]
  · isplitr; · iexact HR
    isplitl [Hl]; · iapply (Entails.of_eq (lent_two (B := B) (c := c)).symm) $$ Hl
    isplitl [L2]; · iexact L2
    isplitl [S2] <;> iassumption
  iintro ⟨C2, HO⟩
  iapply (wp_slot (B := B) (Q := Q) 1 qR _) $$ [Hq Hs Ha]
  · isplitr [Ha]
    · isplitl [Hq] <;> iassumption
    iexact Ha
  iintro ⟨⟨Hq, Hs⟩, Ha⟩
  iapply (wp_waitsH (B := B) (κ := κ) 2 [] (by simp)) $$ [C2 W2 HO]
  · isplitr; · iexact HR
    isplitr; · iexact Hlev
    isplitl [C2]; · iexact C2
    isplitl [W2] <;> iassumption
  iintro ⟨Hl, Hs2, Z2, HO⟩
  ihave Hl := (Entails.of_eq (lent_two (B := B) (c := c))) $$ Hl
  ihave Hs1 := (slots_join (B := B) 1) $$ [Hl Hs]
  · isplitl [Hl] <;> iassumption
  -- the keys of hop 2, and the division
  ihave Hs2 := (Entails.of_eq (slots_eq (B := B) (c := c) 2)) $$ Hs2
  iapply (wp_slot (B := B) (Q := Q) 2 fullShare _) $$ [Hq Hs2 Ha]
  · isplitr [Ha]
    · isplitl [Hq] <;> iassumption
    iexact Ha
  iintro ⟨⟨Hq, Hs2⟩, Ha⟩
  iapply (wp_division _ R) $$ Ha
  iintro Ha
  iapply HK
  isplitl [Hb0 Z0 Z1 Z2 Hs0 Hs1 Hs2]
  · isplitl [Hb0]; · iexact Hb0
    isplitl [Z0 Z1 Z2]
    · isplitl [Z0]; · iexact Z0
      isplitl [Z1] <;> iassumption
    isplitl [Hs0]; · iapply (slots_any (B := B) 0) $$ Hs0
    isplitl [Hs1]; · iapply (slots_any (B := B) 1) $$ Hs1
    iapply (slots_any (B := B) 2) $$ Hs2
  isplitl [Hq]; · iexact Hq
  isplitl [Ho]; · iexact Ho
  isplitl [Ha]; · iexact Ha
  iexact HO
end

end Cert.KernelIdeal.Attn

end
-- ==== Proof.KiBuf.lean ====
/-
  The buffers of `KernelIdeal` on the way into the kernel function and out of it: a gathered buffer is its three
  slots, the accumulators read group by group are the accumulators read whole.
-/
module

public import proofs.«01_k».proof.Proof.KiWhole
public import Idealize.ShloMosaic.Lib.Ring

@[expose] public section

noncomputable section

namespace Cert.KernelIdeal.Attn

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ### A gathered buffer is its slots -/

theorem disjS : ∀ h h', h ≠ h' → Disjoint (rS h).set (rS h').set := fun h h' e =>
  Rect.unit_disjoint (0 : Fin 4) (by
    have : h.val ≠ h'.val := fun e' => e (Fin.ext e')
    show h.val + 1 ≤ h'.val ∨ h'.val + 1 ≤ h.val
    omega)

/-- The elements of slot `h`, in the buffer. -/
def slotSet (a : Memref sig .tc .vmem S3x64x64x128 .bf16) (h : Fin 3) : Finset a.view.ty.Idx := (a.view.slice (rS h)).set

theorem slot_set (a : Memref sig .tc .vmem S3x64x64x128 .bf16) (h : Fin 3) : (slotM a h).view.set = slotSet a h :=
  View.set_reshape _ _

theorem slot_disj (a : Memref sig .tc .vmem S3x64x64x128 .bf16) (h h' : Fin 3) (e : h ≠ h') : Disjoint (slotSet a h) (slotSet a h') :=
  View.disjoint_slice (v := a.view) (disjS h h' e)

/-- Every index of a gathered buffer lies in the slot its first coordinate names. -/
theorem slot_cover (a : Memref sig .tc .vmem S3x64x64x128 .bf16) (ha : a.IsWhole) :
    Finset.univ.biUnion (slotSet a) = Finset.univ := by
  refine Finset.eq_univ_iff_forall.mpr fun i => ?_
  have hi : i ∈ a.view.set := by rw [ha.set_eq_univ]; exact Finset.mem_univ i
  obtain ⟨x, -, rfl⟩ := Finset.mem_map.mp hi
  refine Finset.mem_biUnion.mpr ⟨x 0, Finset.mem_univ _, ?_⟩
  unfold slotSet
  rw [View.set_slice]
  refine Finset.mem_map_of_mem _ ((LoadRect.mem_set _).mpr fun b => ?_)
  fin_cases b
  · exact ⟨0, Nat.one_pos, (Nat.add_zero _).symm⟩
  · exact ⟨(x 1).val, (x 1).isLt, by show (x 1).val = 0 + 1 * (x 1).val; omega⟩
  · exact ⟨(x 2).val, (x 2).isLt, by show (x 2).val = 0 + 1 * (x 2).val; omega⟩
  · exact ⟨(x 3).val, (x 3).isLt, by show (x 3).val = 0 + 1 * (x 3).val; omega⟩

/-- The gathered buffer `X` whole, at some contents. -/
def gathered (X : Fin 4) (c : Dev nD) : sProp 𝕄 :=
  iprop(∃ f : Buf (Elt F) ((gat X).view.loc (c : Thread nD τ)), ((gat X).view.loc (c : Thread nD τ) ↦{fullShare} f))

/-- Slot `h` of a buffer at some contents. -/
def slotOf (a : Memref sig .tc .vmem S3x64x64x128 .bf16) (c : Dev nD) (h : Fin 3) : sProp 𝕄 :=
  iprop(∃ f : Buf (Elt F) (a.view.loc (c : Thread nD τ)), (a.view.loc (c : Thread nD τ) ↦[slotSet a h]{fullShare} f))

theorem whole_split (a : Memref sig .tc .vmem S3x64x64x128 .bf16) (ha : a.IsWhole) (c : Dev nD) :
    iprop(∃ f : Buf (Elt F) (a.view.loc (c : Thread nD τ)), (a.view.loc (c : Thread nD τ) ↦{fullShare} f))
      ⊢ (iprop(slotOf a c 0 ∗ slotOf a c 1 ∗ slotOf a c 2) : sProp 𝕄) :=
  Ring.slots3_split (ℓ := a.view.loc (c : Thread nD τ)) (slotSet a) (slot_disj a) (slot_cover a ha)
    (fun f => (a.view.loc (c : Thread nD τ) ↦[slotSet a 0]{fullShare} f)) (fun f => (a.view.loc (c : Thread nD τ) ↦[slotSet a 1]{fullShare} f))
    (fun f => (a.view.loc (c : Thread nD τ) ↦[slotSet a 2]{fullShare} f)) (fun _ => rfl) (fun _ => rfl) (fun _ => rfl)

theorem whole_join (a : Memref sig .tc .vmem S3x64x64x128 .bf16) (ha : a.IsWhole) (c : Dev nD) :
    (iprop(slotOf a c 0 ∗ slotOf a c 1 ∗ slotOf a c 2) : sProp 𝕄)
      ⊢ iprop(∃ f : Buf (Elt F) (a.view.loc (c : Thread nD τ)), (a.view.loc (c : Thread nD τ) ↦{fullShare} f)) :=
  Ring.slots3_join (ℓ := a.view.loc (c : Thread nD τ)) (slotSet a) (slot_disj a) (slot_cover a ha)
    (fun f => (a.view.loc (c : Thread nD τ) ↦[slotSet a 0]{fullShare} f)) (fun f => (a.view.loc (c : Thread nD τ) ↦[slotSet a 1]{fullShare} f))
    (fun f => (a.view.loc (c : Thread nD τ) ↦[slotSet a 2]{fullShare} f)) (fun _ => rfl) (fun _ => rfl) (fun _ => rfl)

theorem slotAny_eq (X : Fin 4) (h : Fin 3) (c : Dev nD) : (slotAny X h c : sProp 𝕄) = slotOf (gat X) c h :=
  congrArg (fun S : Finset (gat X).view.ty.Idx => (iprop(∃ f : Buf (Elt F) ((gat X).view.loc (c : Thread nD τ)),
    ((gat X).view.loc (c : Thread nD τ) ↦[S]{fullShare} f)) : sProp 𝕄)) (slot_set (gat X) h)

theorem gathered_split (X : Fin 4) (c : Dev nD) : gathered X c ⊢ (iprop(slotAny X 0 c ∗ slotAny X 1 c ∗ slotAny X 2 c) : sProp 𝕄) := by
  rw [slotAny_eq, slotAny_eq, slotAny_eq]
  exact whole_split (gat X) (gat_whole X) c

theorem gathered_join (X : Fin 4) (c : Dev nD) : (iprop(slotAny X 0 c ∗ slotAny X 1 c ∗ slotAny X 2 c) : sProp 𝕄) ⊢ gathered X c := by
  rw [slotAny_eq, slotAny_eq, slotAny_eq]
  exact whole_join (gat X) (gat_whole X) c

/-! ### The accumulators -/

/-- The head group of a row of the output, and the index inside it. -/
def grp (x : S64x256x64.Idx) : Fin 8 := ⟨(x 0).val / 8, Nat.div_lt_of_lt_mul (x 0).isLt⟩
def inGrp (x : S64x256x64.Idx) : S8x256x64.Idx := fun a => match a with
  | 0 => ⟨(x 0).val % 8, Nat.mod_lt _ (by decide)⟩ | 1 => x 1 | 2 => x 2
theorem grp_emb (x : S64x256x64.Idx) : (rQ (grp x)).emb (inGrp x) = x := funext fun a => Fin.ext (by
  fin_cases a
  · show 8 * ((x 0).val / 8) + 1 * ((x 0).val % 8) = (x 0).val
    omega
  · show 0 + 1 * (x 1).val = (x 1).val
    omega
  · show 0 + 1 * (x 2).val = (x 2).val
    omega)

/-- The output the groups' outputs make. -/
def glue (G : Fin 8 → DO F) : S64x256x64.Idx → Elt F .f32 := fun x => (G (grp x)).2 (inGrp x)

/-- Whatever the accumulators hold, it is read group by group. -/
theorem acc_intro (c : Dev nD) (X : S64x256x64.Idx → Elt F .f32) :
    iprop(holds c outM fullShare X ∗ ∃ f : Buf (Elt F) ((c : Thread nD τ).loc cc0_scratch4), ((c : Thread nD τ).loc cc0_scratch4) ↦{fullShare} f)
      ⊢ (iprop(∃ G, acc c outM denM G) : sProp 𝕄) := by
  unfold holds acc holdsG
  iintro ⟨⟨%f, -, H⟩, ⟨%f', H'⟩⟩
  iexists fun g => ((denM.access (rD g)).read (Elt F) f', (outM.access (rQ g)).read (Elt F) f)
  isplitl [H']
  · iexists f'
    isplitr; · ipureintro; exact fun _ => rfl
    iapply (Entails.of_eq (congrArg (fun S => ((c : Thread nD τ).loc cc0_scratch4 ↦[S]{fullShare} f' : sProp 𝕄))
      (show Finset.univ = denM.view.set from (Memref.isWhole_whole cc0_scratch4).set_eq_univ.symm))) $$ H'
  · iexists f
    isplitr; · ipureintro; exact fun _ => rfl
    iexact H

theorem acc_elim (c : Dev nD) (G : Fin 8 → DO F) :
    acc c outM denM G ⊢ (iprop(holds c outM fullShare (glue G)
      ∗ ∃ f : Buf (Elt F) ((c : Thread nD τ).loc cc0_scratch4), ((c : Thread nD τ).loc cc0_scratch4) ↦{fullShare} f) : sProp 𝕄) := by
  unfold holds acc holdsG
  iintro ⟨⟨%f', -, H'⟩, ⟨%f, %hf, H⟩⟩
  isplitl [H]
  · iexists f
    isplitr
    · ipureintro
      funext x
      unfold glue
      refine (?_ : _ = _).trans (congrFun (hf (grp x)) (inGrp x))
      exact congrArg (outM.view.read (Elt F) f) (grp_emb x).symm
    iexact H
  · iexists f'
    iapply (Entails.of_eq (congrArg (fun S => ((c : Thread nD τ).loc cc0_scratch4 ↦[S]{fullShare} f' : sProp 𝕄))
      (show denM.view.set = Finset.univ from (Memref.isWhole_whole cc0_scratch4).set_eq_univ))) $$ H'

end Cert.KernelIdeal.Attn

end
-- ==== Proof.KiRegion.lean ====
/-
  The kernel function of `KernelIdeal` as a region of the program: what a device brings from the launch, how it opens
  its semaphores, and the region's record from the body's run.
-/
module

public import proofs.«01_k».proof.Proof.KiBuf
public import proofs.«01_k».proof.Proof.Gen.KernelIdeal.Launch
public import proofs.«01_k».proof.Proof.Gen.KernelIdeal.Points
public import Idealize.ShloMosaic.Lib.Pipeline.FrameBody
public import Idealize.ShloMosaic.Lib.Pipeline.FrameSuffix
public import Idealize.ShloMosaic.Lib.Pipeline.FrameTail
public import Idealize.ShloMosaic.Lib.Pipeline.RegionTalk
public import Idealize.ShloMosaic.Lib.Pipeline.RegionArraysS

@[expose] public section

noncomputable section

namespace Cert.KernelIdeal.Attn

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ### Every copy's resources -/

/-- `P` at every copy. -/
def all (P : Fin 3 → Fin 4 → sProp 𝕄) : sProp 𝕄 := bigSep Finset.univ fun k : Fin 3 × Fin 4 => P k.1 k.2

theorem bigSep_four (P : Fin 4 → sProp 𝕄) : bigSep Finset.univ P = four P :=
  bigSep_univ_eq_bigSepL [(0 : Fin 4), (1 : Fin 4), (2 : Fin 4), (3 : Fin 4)] (by decide) (by decide) P
theorem bigSep_three (P : Fin 3 → sProp 𝕄) : bigSep Finset.univ P = iprop(P 0 ∗ P 1 ∗ P 2) :=
  bigSep_univ_eq_bigSepL [(0 : Fin 3), (1 : Fin 3), (2 : Fin 3)] (by decide) (by decide) P
theorem all_eq (P : Fin 3 → Fin 4 → sProp 𝕄) : all P = iprop(four (P 0) ∗ four (P 1) ∗ four (P 2)) := by
  unfold all
  rw [bigSep_univ_prod, bigSep_three]
  simp only [bigSep_four]

theorem all_mono {P Q : Fin 3 → Fin 4 → sProp 𝕄} (h : ∀ i X, P i X ⊢ Q i X) : all P ⊢ all Q := bigSep_mono fun k _ => h k.1 k.2
theorem all_pair {P Q : Fin 3 → Fin 4 → sProp 𝕄} : iprop(all P ∗ all Q) ⊢ all (fun h X => iprop(P h X ∗ Q h X)) := Entails.of_eq (bigSep_sep' Finset.univ (fun k : Fin 3 × Fin 4 => P k.1 k.2) (fun k => Q k.1 k.2)).symm
theorem all_unpair {P Q : Fin 3 → Fin 4 → sProp 𝕄} : all (fun h X => iprop(P h X ∗ Q h X)) ⊢ iprop(all P ∗ all Q) := Entails.of_eq (bigSep_sep' Finset.univ (fun k : Fin 3 × Fin 4 => P k.1 k.2) (fun k => Q k.1 k.2))

/-- Over the semaphores: each copy's two. -/
def ski : (Fin 3 × Fin 4) × Bool ≃ SK where
  toFun k := (k.2, k.1.2, k.1.1)
  invFun k := ((k.2.2, k.2.1), k.1)
  left_inv _ := rfl
  right_inv _ := rfl
theorem bigSep_SK (Φ : SK → sProp 𝕄) : bigSep Finset.univ Φ = all (fun h X => iprop(Φ (false, X, h) ∗ Φ (true, X, h))) := by
  rw [bigSep_univ_equiv ski Φ, bigSep_univ_prod]
  exact bigSep_congr fun k _ => bigSep_univ_eq_bigSepL [false, true] (by decide) (by decide) (fun b => Φ (ski (k, b)))

theorem ownSems_eq (c : Dev nD) : (Pipeline.ownSems0 osem c : sProp 𝕄) = all (zeros c) :=
  bigSep_SK (fun k => semVal ((c : Thread nD τ), osem k) 0)

/-- What the launch gives for a copy: the right to open its semaphores, the tokens of its two duties, and the
    credit to wait with. -/
def openC (c : Dev nD) (h : Fin 3) (X : Fin 4) : sProp 𝕄 := iprop(openTok ER (sendCell c X h) ∗ openTok ER (recvCell c X h))
def tokC (c : Dev nD) (h : Fin 3) (X : Fin 4) : sProp 𝕄 := iprop(dutyTok ER (sendCell c X h) 0 0 ∗ dutyTok ER (recvCell (dst X c) X h) 0 0)
def crdC (c : Dev nD) (h : Fin 3) (X : Fin 4) : sProp 𝕄 := cred (tallyAt (recvCell c X h) () N)
/-- Opened. -/
def opened (c : Dev nD) (h : Fin 3) (X : Fin 4) : sProp 𝕄 := iprop((sTick c h X ∗ wTick c h X) ∗ reached ER (recvCell c X h) 0)

section
variable (B : Fin 4 → Dev nD → S64x64x128.Idx → Elt F .bf16)

theorem open_copy (κ : GSem nD τ sig → ℕ) (c : Dev nD) (h : Fin 3) (X : Fin 4) :
    iprop(records B κ ∗ ((openC c h X ∗ tokC c h X) ∗ crdC c h X) ∗ zeros c h X) ⊢ (|={Set.univ}=> opened c h X : sProp 𝕄) := by
  unfold openC tokC crdC zeros opened sTick wTick
  iintro ⟨#HR, ⟨⟨⟨HoS, HoR⟩, HtS, HtR⟩, Hc⟩, HS, HV⟩
  imod (Rounds.cell_open ER (rd B) (g := sendCell c X h) (Set.mem_univ (κ (sendCell c X h)))) $$ [HoS HS] with ⟨HaS, #HrS⟩
  · isplitr; · iapply (inv_at (send_mem c X h)) $$ HR
    isplitl [HoS] <;> iassumption
  imod (Rounds.cell_open ER (rd B) (g := recvCell c X h) (Set.mem_univ (κ (recvCell c X h)))) $$ [HoR HV] with ⟨HaR, #HrR⟩
  · isplitr; · iapply (inv_at (recv_mem c X h)) $$ HR
    isplitl [HoR] <;> iassumption
  imodintro
  isplitr []
  · isplitl [HtS HtR]
    · isplitr; · iexact HrS
      isplitl [HtS] <;> iassumption
    isplitl [Hc]; · iexact Hc
    isplitl [HaS] <;> iassumption
  iexact HrR

/-- What a device keeps from the launch, and what it enters the region with. -/
def Tk (c : Dev nD) : sProp 𝕄 := iprop((∃ κ, records B κ) ∗ (barToks c ∗ cred (tallyAt (barCell c) () 2) ∗ atPos ER (barCell c) 0 ∅ 0)
  ∗ all (fun h X => iprop((openC c h X ∗ tokC c h X) ∗ crdC c h X)))
def Xk (c : Dev nD) : sProp 𝕄 := iprop((∃ κ, records B κ) ∗ levAts L lv ∗ (barToks c ∗ cred (tallyAt (barCell c) () 2) ∗ atPos ER (barCell c) 0 ∅ 0)
  ∗ all (opened c))
def Yk (c : Dev nD) : sProp 𝕄 := semVal (barCell c) 0

theorem hopen (c : Dev nD) : iprop(Tk B c ∗ Pipeline.ownSems0 osem c ∗ levAts L lv) ⊢ (|={Set.univ}=> Xk B c : sProp 𝕄) := by
  rw [ownSems_eq]
  unfold Tk Xk
  iintro ⟨⟨⟨%κ, #HR⟩, Hb, Ha⟩, HZ, #Hlev⟩
  ihave H := (all_pair (F := F)) $$ [Ha HZ]
  · isplitl [Ha] <;> iassumption
  ihave H := (show iprop(records B κ ∗ all (fun h X => iprop(((openC c h X ∗ tokC c h X) ∗ crdC c h X) ∗ zeros c h X)))
      ⊢ (bigSep Finset.univ fun k : Fin 3 × Fin 4 => iprop(|={Set.univ}=> opened c k.1 k.2) : sProp 𝕄) from
    bigSep_with_persistent fun k _ => open_copy B κ c k.1 k.2) $$ [H]
  · isplitr; · iexact HR
    iexact H
  imod (bigSep_fupd (Finset.univ : Finset (Fin 3 × Fin 4)) (fun k => (opened c k.1 k.2 : sProp 𝕄))) $$ H with H
  imodintro
  isplitr; · iexists κ; iexact HR
  isplitr; · iexact Hlev
  isplitl [Hb]; · iexact Hb
  unfold all
  iexact H

/-! ### The slots handed out, and back -/

theorem handOut_intro (c : Dev nD) : iprop(four (fun X => gathered X c) ∗ all (fun h X => reached ER (recvCell c X h) 0)) ⊢ (handOut c : sProp 𝕄) := by
  have h1 : iprop(four (fun X => gathered X c) ∗ all (fun h X => reached ER (recvCell c X h) 0)) ⊢ (four (fun X => landing3 X c) : sProp 𝕄) := by
    rw [all_eq]
    iintro ⟨HG, R0, R1, R2⟩
    ihave H := (four_unsep (F := F)) $$ [R1 R2]
    · isplitl [R1] <;> iassumption
    ihave H := (four_unsep (F := F)) $$ [R0 H]
    · isplitl [R0] <;> iassumption
    ihave H := (four_unsep (F := F)) $$ [HG H]
    · isplitl [HG] <;> iassumption
    iapply (four_mono (F := F) fun X => ?_) $$ H
    unfold landing3 landing
    iintro ⟨HG, R0, R1, R2⟩
    ihave HG := (gathered_split X c) $$ HG
    icases HG with ⟨G0, G1, G2⟩
    isplitl [G0 R0]; · isplitl [G0] <;> iassumption
    isplitl [G1 R1]; · isplitl [G1] <;> iassumption
    isplitl [G2] <;> iassumption
  refine h1.trans ?_
  unfold four handOut
  iintro ⟨H0, H1, H2, H3⟩
  isplitl [H0 H1]; · isplitl [H0] <;> iassumption
  isplitl [H2] <;> iassumption

theorem gather_back (c : Dev nD) :
    iprop(four (fun X => slotAny X 0 c) ∗ four (fun X => slotAny X 1 c) ∗ four (fun X => slotAny X 2 c)) ⊢ (four (fun X => gathered X c) : sProp 𝕄) := by
  iintro ⟨S0, S1, S2⟩
  ihave H := (four_unsep (F := F)) $$ [S1 S2]
  · isplitl [S1] <;> iassumption
  ihave H := (four_unsep (F := F)) $$ [S0 H]
  · isplitl [S0] <;> iassumption
  iapply (four_mono (F := F) fun X => gathered_join X c) $$ H

/-- The start of the body's run from what enters the region. -/
theorem startC_intro (c : Dev nD) : iprop(four (fun X => gathered X c) ∗ (barToks c ∗ cred (tallyAt (barCell c) () 2) ∗ atPos ER (barCell c) 0 ∅ 0)
    ∗ all (opened c)) ⊢ (startC c : sProp 𝕄) := by
  unfold startC
  iintro ⟨HG, ⟨Hb, Hc, Hp⟩, HA⟩
  ihave HA := (show all (opened c) ⊢ (iprop(all (fun h X => iprop(sTick c h X ∗ wTick c h X)) ∗ all (fun h X => reached ER (recvCell c X h) 0)) : sProp 𝕄)
    from all_unpair) $$ HA
  icases HA with ⟨HA, HR⟩
  ihave HA := (all_unpair (F := F)) $$ HA
  icases HA with ⟨HS, HW⟩
  ihave HS := (Entails.of_eq (all_eq (sTick (F := F) c))) $$ HS
  ihave HW := (Entails.of_eq (all_eq (wTick (F := F) c))) $$ HW
  icases HS with ⟨S0, S1, S2⟩
  icases HW with ⟨W0, W1, W2⟩
  isplitl [HG HR]
  · iapply (handOut_intro c); isplitl [HG] <;> iassumption
  isplitl [Hb]; · iexact Hb
  isplitl [Hc Hp]; · isplitl [Hc] <;> iassumption
  isplitl [S0 W0]; · isplitl [S0] <;> iassumption
  isplitl [S1 W1]; · isplitl [S1] <;> iassumption
  isplitl [S2] <;> iassumption
end

/-! ### The region's data -/

section
variable (m : (ℓ : Loc nD τ sig) → Buf (Elt F) ℓ)

/-- The buffers at launch, and when the region is entered. -/
def V₀ (c : Dev nD) : Valuation τ sig (Elt F) := fun b => m (c, b)
def V₁ (c : Dev nD) : Valuation τ sig (Elt F) := StableHlo.after hostOps0 (V₀ m c)

/-- Window `w`'s block there. -/
def blkOf (c : Dev nD) (w : Fin cfg0.W) : ((cfg0.win w).xblock (cfg0.grid.coords t0_0)).Idx → Elt F (cfg0.win w).elt :=
  ((cfg0.win w).blk t0_0).view.read (Elt F) (V₁ m c (Proc.devRef .tc (Pipeline.arrRef spec0 w)))
/-- The queries, and the four blocks that travel. -/
def Qv (c : Dev nD) : S64x256x64.Idx → Elt F .bf16 := blkOf m c 0
def Bv (X : Fin 4) (c : Dev nD) : S64x64x128.Idx → Elt F .bf16 := match X with
  | 0 => blkOf m c 1 | 1 => blkOf m c 3 | 2 => blkOf m c 2 | 3 => blkOf m c 4
/-- The output. -/
def outv (c : Dev nD) : S64x256x64.Idx → Elt F .f32 := glue (finG (Bv m) (Qv m c) c)

def afterW (c : Dev nD) : (w : Fin cfg0.W) → (cfg0.win w).block.Idx → Elt F (cfg0.win w).elt
  | ⟨0, _⟩ => blkOf m c 0 | ⟨1, _⟩ => blkOf m c 1 | ⟨2, _⟩ => blkOf m c 2 | ⟨3, _⟩ => blkOf m c 3 | ⟨4, _⟩ => blkOf m c 4 | ⟨5, _⟩ => outv m c

def dat0 (c : Dev nD) : Dat τ (Elt F) Unit ℕ UU ℕ cfg0 c where
  A w := V₁ m c (Proc.devRef .tc (Pipeline.arrRef spec0 w))
  after w _ := afterW m c w
  Φ t := if t.val = 0 then iprop(Pipeline.scopedRest spec0 c ∗ (∃ r, prngReg c r) ∗ Xk (Bv m) c)
    else iprop(Pipeline.scopedRest spec0 c ∗ (∃ r, prngReg c r) ∗ Pipeline.ownSems0 osem c ∗ Yk c)
  q _ := fullShare
  owed t := if t.val = 0 then O₀ c else 0

abbrev adm : (p : Fin 1) → (pcfgs (F := F) p).Adm := fun p => (cfgs p).toPCfg_adm
def pdats : (p : Fin 1) → (c : Dev nD) → Dat τ (Elt F) Unit ℕ UU ℕ (Pipeline.pin (pcfgs (F := F)) adm p) c
  | 0 => dat0 m

/-- An input's staging buffer holds its block when the body starts. -/
theorem before0 (c : Dev nD) (d) : (dat0 m c).before 0 t0_0 d = blkOf m c 0 :=
  ((dat0 m c).before_in_eq_fetched 0 rfl (fun _ => rfl) (fun _ _ _ => rfl) (fun t => by rw [fin_N0 t]; rfl) t0_0 d).trans rfl
theorem before1 (c : Dev nD) (d) : (dat0 m c).before 1 t0_0 d = blkOf m c 1 :=
  ((dat0 m c).before_in_eq_fetched 1 rfl (fun _ => rfl) (fun _ _ _ => rfl) (fun t => by rw [fin_N0 t]; rfl) t0_0 d).trans rfl
theorem before2 (c : Dev nD) (d) : (dat0 m c).before 2 t0_0 d = blkOf m c 2 :=
  ((dat0 m c).before_in_eq_fetched 2 rfl (fun _ => rfl) (fun _ _ _ => rfl) (fun t => by rw [fin_N0 t]; rfl) t0_0 d).trans rfl
theorem before3 (c : Dev nD) (d) : (dat0 m c).before 3 t0_0 d = blkOf m c 3 :=
  ((dat0 m c).before_in_eq_fetched 3 rfl (fun _ => rfl) (fun _ _ _ => rfl) (fun t => by rw [fin_N0 t]; rfl) t0_0 d).trans rfl
theorem before4 (c : Dev nD) (d) : (dat0 m c).before 4 t0_0 d = blkOf m c 4 :=
  ((dat0 m c).before_in_eq_fetched 4 rfl (fun _ => rfl) (fun _ _ _ => rfl) (fun t => by rw [fin_N0 t]; rfl) t0_0 d).trans rfl

theorem owed_first (c : Dev nD) : (dat0 m c).owed t0_0.castSucc = O₀ c := by
  show (if (t0_0.castSucc : Fin (cfg0.N + 1)).val = 0 then O₀ c else 0) = O₀ c
  exact if_pos rfl
theorem owed_last (c : Dev nD) : (dat0 m c).owed (Fin.last _) = 0 := by
  show (if (Fin.last cfg0.N).val = 0 then O₀ c else 0) = 0
  rw [Fin.val_last, if_neg (by rw [show cfg0.N = 1 from N_0]; decide)]

theorem owesAt_intro (c : Dev nD) (t : Fin (cfg0.N + 1)) (O : CellTallies nD τ sig Unit) (h0 : (dat0 m c).owed t = O) :
    owing c O ⊢ ((dat0 m c).owesAt () t : sProp 𝕄) := by
  unfold owing Dat.owesAt Pipeline.owesWithin Dat.bound; rw [h0]
  iintro ⟨%W, HO⟩; iexists W
  isplitr; · ipureintro; exact fun _ _ => Or.inl trivial
  iexact HO
theorem owesAt_elim (c : Dev nD) (t : Fin (cfg0.N + 1)) (O : CellTallies nD τ sig Unit) (h0 : (dat0 m c).owed t = O) :
    ((dat0 m c).owesAt () t : sProp 𝕄) ⊢ owing c O := by
  unfold owing Dat.owesAt Pipeline.owesWithin; rw [h0]
  iintro ⟨%W, -, HO⟩; iexists W; iexact HO

/-- The windows' staging buffers when the body starts, and when it is over. -/
def wins (c : Dev nD) : sProp 𝕄 := iprop(holds c qM fullShare (Qv m c) ∗ holds c (own 0) fullShare (Bv m 0 c) ∗ holds c (own 2) fullShare (Bv m 2 c)
  ∗ holds c (own 1) fullShare (Bv m 1 c) ∗ holds c (own 3) fullShare (Bv m 3 c))

/-- The body's program on the buffers and semaphores the region calls it with. -/
def theBody : PK F PUnit := body qM (own 0) (own_whole 0) (own 2) (own_whole 2) (own 1) (own_whole 1) (own 3) (own_whole 3) outM
  (gat 0) (gat_whole 0) (gat 1) (gat_whole 1) (gat 2) (gat_whole 2) (gat 3) (gat_whole 3) denM
  (ssem 0) (rsem 0) (ssem 1) (rsem 1) (ssem 2) (rsem 2) (ssem 3) (rsem 3)
set_option maxRecDepth 65536 in
theorem theBody_eq : bodyAt0 (F := F) t0_0 = theBody := by
  unfold theBody
  exact cc0_body_eq ..

theorem rest_split (c : Dev nD) : (Pipeline.scopedRest spec0 c : sProp 𝕄)
    = iprop(gathered 0 c ∗ gathered 1 c ∗ gathered 2 c ∗ gathered 3 c ∗ ∃ f : Buf (Elt F) ((c : Thread nD τ).loc cc0_scratch4), ((c : Thread nD τ).loc cc0_scratch4) ↦{fullShare} f) :=
  scopedRest0_eq c

theorem run_body (c : Dev nD) (X : S64x256x64.Idx → Elt F .f32) (K : PUnit → sProp 𝕄) :
    iprop(((Pipeline.scopedRest spec0 c ∗ (∃ r, prngReg c r) ∗ Xk (Bv m) c) ∗ owing c (O₀ c) ∗ wins m c ∗ holds c outM fullShare X)
      ∗ (((Pipeline.scopedRest spec0 c ∗ (∃ r, prngReg c r) ∗ Pipeline.ownSems0 osem c ∗ Yk c) ∗ owing c 0 ∗ wins m c ∗ holds c outM fullShare (outv m c)) -∗ K ⟨⟩))
      ⊢ wp frame (wpE (defs₀ (F := F)) 𝒱₀ c none) Set.univ theBody K := by
  rw [rest_split, ownSems_eq]
  unfold Xk wins Yk
  iintro ⟨⟨⟨⟨G0, G1, G2, G3, Hd⟩, Hp, ⟨%κ, #HR⟩, #Hlev, Hb, Ha⟩, HO, ⟨Hq, B0, B2, B1, B3⟩, Hout⟩, HK⟩
  ihave Hac := (acc_intro c X) $$ [Hout Hd]
  · isplitl [Hout] <;> iassumption
  icases Hac with ⟨%G, Hac⟩
  ihave Hs := (startC_intro (F := F) c) $$ [G0 G1 G2 G3 Hb Ha]
  · isplitl [G0 G1 G2 G3]
    · unfold four
      isplitl [G0]; · iexact G0
      isplitl [G1]; · iexact G1
      isplitl [G2] <;> iassumption
    isplitl [Hb] <;> iassumption
  unfold theBody
  iapply (wp_whole (B := Bv m) (κ := κ) (Q := Qv m c) G K) $$ [Hs Hq B0 B1 B2 B3 Hac HO]
  · isplitr; · iexact HR
    isplitr; · iexact Hlev
    isplitl [Hs]; · iexact Hs
    isplitl [Hq]; · unfold queries; iexact Hq
    isplitl [B0 B1 B2 B3]
    · unfold owns four
      isplitl [B0]; · iexact B0
      isplitl [B1]; · iexact B1
      isplitl [B2] <;> iassumption
    isplitl [Hac] <;> iassumption
  unfold endC queries owns four
  iintro ⟨⟨Hb0, HZ, S0, S1, S2⟩, Hq, ⟨B0, B1, B2, B3⟩, Hac, HO⟩
  ihave Hac := (acc_elim c (finG (Bv m) (Qv m c) c)) $$ Hac
  icases Hac with ⟨Hout, Hd⟩
  ihave HG := (gather_back (F := F) c) $$ [S0 S1 S2]
  · unfold four
    isplitl [S0]; · iexact S0
    isplitl [S1] <;> iassumption
  unfold four
  icases HG with ⟨G0, G1, G2, G3⟩
  iapply HK
  isplitl [G0 G1 G2 G3 Hd Hp HZ Hb0]
  · isplitl [G0 G1 G2 G3 Hd]
    · isplitl [G0]; · iexact G0
      isplitl [G1]; · iexact G1
      isplitl [G2]; · iexact G2
      isplitl [G3] <;> iassumption
    isplitl [Hp]; · iexact Hp
    isplitl [HZ]; · rw [all_eq]; unfold four; iexact HZ
    iexact Hb0
  isplitl [HO]; · iexact HO
  isplitl [Hq B0 B1 B2 B3]
  · isplitl [Hq]; · iexact Hq
    isplitl [B0]; · iexact B0
    isplitl [B2]; · iexact B2
    isplitl [B1] <;> iassumption
  unfold outv
  iexact Hout

theorem phi_first (c : Dev nD) : (dat0 m c).Φ t0_0.castSucc = iprop(Pipeline.scopedRest spec0 c ∗ (∃ r, prngReg c r) ∗ Xk (Bv m) c) := by
  dsimp only [dat0]; exact if_pos rfl
theorem phi_last (c : Dev nD) : (dat0 m c).Φ (Fin.last _) = iprop(Pipeline.scopedRest spec0 c ∗ (∃ r, prngReg c r) ∗ Pipeline.ownSems0 osem c ∗ Yk c) := by
  dsimp only [dat0]
  rw [Fin.val_last, if_neg (by rw [show cfg0.N = 1 from N_0]; decide)]

set_option maxRecDepth 65536 in
theorem body_obligation (c : Dev nD) : BodyObligation (dat0 m c) (defs₀ (F := F)) 𝒱₀ () Set.univ := fun t => by
  obtain rfl := fin_N0 t
  rw [bigSep_W0, bigSep_W0]
  show iprop((dat0 m c).Φ t0_0.castSucc ∗ (dat0 m c).owesAt () t0_0.castSucc ∗ (∃ d, holds c qM fullShare ((dat0 m c).before 0 t0_0 d))
      ∗ (∃ d, holds c (own 0) fullShare ((dat0 m c).before 1 t0_0 d)) ∗ (∃ d, holds c (own 2) fullShare ((dat0 m c).before 2 t0_0 d))
      ∗ (∃ d, holds c (own 1) fullShare ((dat0 m c).before 3 t0_0 d)) ∗ (∃ d, holds c (own 3) fullShare ((dat0 m c).before 4 t0_0 d))
      ∗ (∃ d, holds c outM fullShare ((dat0 m c).before 5 t0_0 d)))
    ⊢ wp frame (wpE (defs₀ (F := F)) 𝒱₀ c none) Set.univ (bodyAt0 t0_0) (fun _ => iprop((dat0 m c).Φ t0_0.succ ∗ (dat0 m c).owesAt () t0_0.succ
      ∗ holds c qM fullShare (Qv m c) ∗ holds c (own 0) fullShare (Bv m 0 c) ∗ holds c (own 2) fullShare (Bv m 2 c)
      ∗ holds c (own 1) fullShare (Bv m 1 c) ∗ holds c (own 3) fullShare (Bv m 3 c) ∗ holds c outM fullShare (outv m c)))
  rw [theBody_eq, phi_first, show t0_0.succ = Fin.last _ from rfl, phi_last]
  iintro ⟨HΦ, HO, ⟨%d0, H0⟩, ⟨%d1, H1⟩, ⟨%d2, H2⟩, ⟨%d3, H3⟩, ⟨%d4, H4⟩, ⟨%d5, H5⟩⟩
  ihave HO := (owesAt_elim m c _ (O₀ c) (owed_first m c)) $$ HO
  ihave H0 := (Entails.of_eq (congrArg (holds c qM fullShare) (before0 m c d0))) $$ H0
  ihave H1 := (Entails.of_eq (congrArg (holds c (own 0) fullShare) (before1 m c d1))) $$ H1
  ihave H2 := (Entails.of_eq (congrArg (holds c (own 2) fullShare) (before2 m c d2))) $$ H2
  ihave H3 := (Entails.of_eq (congrArg (holds c (own 1) fullShare) (before3 m c d3))) $$ H3
  ihave H4 := (Entails.of_eq (congrArg (holds c (own 3) fullShare) (before4 m c d4))) $$ H4
  iapply (run_body m c _ _)
  isplitl [HΦ HO H0 H1 H2 H3 H4 H5]
  · isplitl [HΦ]; · iexact HΦ
    isplitl [HO]; · iexact HO
    isplitr [H5]
    · unfold wins
      isplitl [H0]; · iexact H0
      isplitl [H1]; · iexact H1
      isplitl [H2]; · iexact H2
      isplitl [H3]; · iexact H3
      iexact H4
    iexact H5
  unfold wins
  iintro ⟨HΦ, HO, ⟨H0, H1, H2, H3, H4⟩, H5⟩
  isplitl [HΦ]; · iexact HΦ
  isplitl [HO]; · iapply (owesAt_intro m c (Fin.last _) 0 (owed_last m c)); iexact HO
  isplitl [H0]; · iexact H0
  isplitl [H1]; · iexact H1
  isplitl [H2]; · iexact H2
  isplitl [H3]; · iexact H3
  isplitl [H4]; · iexact H4
  iexact H5

/-! ### The region -/

/-- The buffers when the region is left. -/
def V₂ (c : Dev nD) : Valuation τ sig (Elt F) := Pipeline.afterRegion (dat0 m c) (V₁ m c)

theorem O₀_pos {c : Dev nD} {g : GSem nD τ sig} {u : Unit} (h : 0 < O₀ c g u) : u ∈ L g ∧ 0 < lv g u := by
  have key (k : Fin 2) (h : 0 < (tallyAt (barCell (nb k c)) () 1 : CellTallies nD τ sig Unit) g u) : u ∈ L g ∧ 0 < lv g u := by
    rw [tallyAt_apply] at h
    split at h
    · next hg => rw [hg.1, L_tc, lv_bar]; exact ⟨Finset.mem_singleton_self _, Nat.one_pos⟩
    · exact absurd h (Nat.lt_irrefl 0)
  unfold O₀ at h
  rw [Pi.add_apply, Finsupp.add_apply, Pi.add_apply, Finsupp.add_apply] at h
  rcases Nat.add_pos_iff_pos_or_pos.mp h with h | h
  · rcases Nat.add_pos_iff_pos_or_pos.mp h with h | h
    · obtain ⟨x, -, rfl⟩ := oweL_pos h
      rw [L_tc, lv_recv]; exact ⟨Finset.mem_singleton_self _, Nat.succ_pos _⟩
    · exact key 1 h
  · exact key 0 h

/-- A window's own semaphore is no copy's. -/
theorem stage_sem : ∀ (w : Fin 6) (s : Fin ((cfg0.win w).nbuf)), decode ((cfg0.win w).sem s) = none := by decide +kernel

theorem share_eq (c : Dev nD) (w : Fin cfg0.W) : (dat0 m c).share w = fullShare := by unfold Dat.share; split <;> rfl

theorem hin (c : Dev nD) : iprop(Pipeline.scopedRest spec0 c ∗ (∃ r, prngReg c r) ∗ StableHlo.held (c.tc : Thread nD τ) ∅ (V₁ m c) ∗ Xk (Bv m) c)
    ⊢ (dat0 m c).Φ 0 := by
  rw [show (dat0 m c).Φ 0 = _ from phi_first m c]
  iintro ⟨Hs, Hp, -, HX⟩
  isplitl [Hs]; · iexact Hs
  isplitl [Hp] <;> iassumption
theorem hout (c : Dev nD) : (dat0 m c).Φ (Fin.last _)
    ⊢ iprop(Pipeline.scopedRest spec0 c ∗ (∃ r, prngReg c r) ∗ StableHlo.held (c.tc : Thread nD τ) ∅ (V₂ m c) ∗ Pipeline.ownSems0 osem c ∗ Yk c) := by
  rw [phi_last, show StableHlo.held (c.tc : Thread nD τ) ∅ (V₂ m c) = (BI.emp : sProp 𝕄) from BI.bigSep_empty]
  iintro ⟨Hs, Hp, HS, HY⟩
  isplitl [Hs]; · iexact Hs
  isplitl [Hp]; · iexact Hp
  isplitr; · iempintro
  isplitl [HS] <;> iassumption

theorem cut : Pipeline.LevelCutOwed (pcfgs (F := F)) adm (pdats m) () L lv 0 (fun _ => 0) := by
  refine ⟨fun c w s => ?_, fun c w s => ?_, fun c t g i h => ?_⟩
  · rw [L_tc]; exact Finset.mem_singleton_self _
  · show lv ((c : Thread nD τ), .dma ((cfg0.win w).sem s)) () ≤ 0
    dsimp only [lv]; rw [stage_sem]
  · have e : (pdats m 0 c).owed t = if t.val = 0 then O₀ c else 0 := rfl
    rw [e] at h
    split at h
    · exact O₀_pos h
    · exact absurd h (Nat.lt_irrefl 0)

set_option backward.isDefEq.respectTransparency.types false in
def reg : Pipeline.RegionSeg (pcfgs (F := F)) adm (pdats m) () defs₀ 𝒱₀ L lv 0 :=
  Pipeline.RegionSeg.ofTalk (pcfgs (F := F)) adm (pdats m) () defs₀ 𝒱₀ L lv 0 osem (by decide : Pipeline.OwnSemFacts spec0 osem)
    ∅ (Pipeline.ucRefs τ sig \ Pipeline.arrRefs spec0) (Finset.empty_subset _) launch0.toP rfl (fun c => (body_obligation m c).loose)
    (fun _ => 0) O₀ (fun c => (owed_first m c).trans (zero_add _).symm) (owed_last m) (fun _ => rfl) (share_eq m)
    (V₁ m) (V₂ m) (fun c b hb => Pipeline.afterRegion_off (dat0 m c) (V₁ m c) _ b (Finset.mem_sdiff.mp hb).1)
    (Tk (Bv m)) Yk (Xk (Bv m)) Yk (hopen (Bv m)) (hin m) (hout m)
    (fun c => by iintro H; imodintro; iexact H)
    (fun _ => 0) (cut m) (fun _ => iprop(emp))
    (fun c w => rfl) (fun c w => (Pipeline.afterRegion_arr (dat0 m c) (V₁ m c) launch0.win.arr_inj w).symm)

end

end Cert.KernelIdeal.Attn

end
-- ==== Proof.KiRun.lean ====
/-
  The whole run of `KernelIdeal`: the launch deals every device its resources, and @main ends with every buffer at the
  contents its three parts leave and with every semaphore at zero.
-/
module

public import proofs.«01_k».proof.Proof.KiRegion
public import Idealize.ShloMosaic.Lib.Pipeline.Regions
public import Idealize.ShloMosaic.Lib.Quiescent

@[expose] public section

noncomputable section

namespace Cert.KernelIdeal.Attn

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

theorem devs_pair {P Q : Dev nD → sProp 𝕄} : iprop(bigSep Finset.univ P ∗ bigSep Finset.univ Q) ⊢ bigSep Finset.univ fun c => iprop(P c ∗ Q c) :=
  Entails.of_eq (bigSep_sep' Finset.univ P Q).symm
theorem devs_unpair {P Q : Dev nD → sProp 𝕄} : (bigSep Finset.univ fun c => iprop(P c ∗ Q c)) ⊢ iprop(bigSep Finset.univ P ∗ bigSep Finset.univ Q) :=
  Entails.of_eq (bigSep_sep' Finset.univ P Q)

/-! ### The tokens, each with the device that pays its duty -/

theorem nb_inj (d : Fin 2) : Function.Injective (nb d) := (nbEquiv d).injective
theorem opp_inj : Function.Injective opp := fun a b h => by rw [← opp_opp a, h, opp_opp]

/-- The device a semaphore of `c`'s copies lies on. -/
def place (k : SK) (c : Dev nD) : Dev nD := if k.1 then dst k.2.1 c else c
theorem place_inj (k : SK) : Function.Injective (place k) := fun a b h => by
  unfold place at h
  split at h
  · exact nb_inj _ h
  · exact h
def tokAt (x : Dev nD × (Fin 2 ⊕ SK)) : GSem nD τ sig × ℕ × Fin 2 := match x.2 with
  | .inl d => (barCell (nb d x.1), 0, opp d)
  | .inr k => (((place k x.1 : Thread nD τ), osem k), 0, 0)
theorem tokAt_inj : Function.Injective tokAt := by
  rintro ⟨c, d | k⟩ ⟨c', d' | k'⟩ h
  · obtain rfl := opp_inj (congrArg (fun t : GSem nD τ sig × ℕ × Fin 2 => t.2.2) h)
    obtain rfl := nb_inj d (congrArg (fun t : GSem nD τ sig × ℕ × Fin 2 => t.1.1.1) h)
    rfl
  · exact absurd (congrArg (fun t : GSem nD τ sig × ℕ × Fin 2 => t.1.2) h).symm (osem_ne_bar k')
  · exact absurd (congrArg (fun t : GSem nD τ sig × ℕ × Fin 2 => t.1.2) h) (osem_ne_bar k)
  · obtain rfl := osem_inj (congrArg (fun t : GSem nD τ sig × ℕ × Fin 2 => t.1.2) h)
    obtain rfl := place_inj k (congrArg (fun t : GSem nD τ sig × ℕ × Fin 2 => t.1.1.1) h)
    rfl
def toks : Finset (GSem nD τ sig × ℕ × Fin 2) := Finset.univ.map ⟨tokAt, tokAt_inj⟩

theorem toks_deal : bigSep toks (fun x => (dutyTok ER x.1 x.2.1 x.2.2 : sProp 𝕄)) = bigSep Finset.univ fun c : Dev nD => iprop(barToks c ∗ all (tokC c)) := by
  unfold toks
  rw [bigSep_map, bigSep_univ_prod]
  refine bigSep_congr fun c _ => ?_
  rw [bigSep_univ_sum, bigSep_SK, BI.bigSep_fin_two]
  rfl

theorem opens_deal : bigSep scCells (fun g => (openTok ER g : sProp 𝕄)) = bigSep Finset.univ fun c : Dev nD => all (openC c) := by
  rw [bigSep_map, bigSep_univ_prod]
  exact bigSep_congr fun c _ => bigSep_SK _

/-! ### What the launch credits -/

theorem oweL_bar (d c : Dev nD) (l : List (Fin 4 × Fin 3)) : oweL d l (barCell c) () = 0 := by
  induction l with
  | nil => rfl
  | cons x l ih =>
    rw [oweL, Pi.add_apply, Finsupp.add_apply, ih, tallyAt_ne_cell (fun h => osem_ne_bar (true, x.1, x.2) (congrArg Prod.snd h).symm)]
    rfl
theorem tally_bar (d : Fin 2) (a c : Dev nD) : (tallyAt (barCell (nb d a)) () 1 : CellTallies nD τ sig Unit) (barCell c) () = if a = nb (opp d) c then 1 else 0 := by
  rw [tallyAt_apply]
  by_cases h : a = nb (opp d) c
  · subst h; rw [nb_opp', if_pos ⟨rfl, rfl⟩, if_pos rfl]
  · rw [if_neg (fun ⟨h1, _⟩ => h (by rw [← nb_opp d a]; exact congrArg (nb (opp d)) (congrArg (fun g : GSem nD τ sig => g.1.1) h1).symm)), if_neg h]
theorem owed_bar (a c : Dev nD) : O₀ a (barCell c) () = (if a = nb 0 c then 1 else 0) + if a = nb 1 c then 1 else 0 := by
  unfold O₀
  rw [Pi.add_apply, Finsupp.add_apply, Pi.add_apply, Finsupp.add_apply, oweL_bar, tally_bar, tally_bar, Nat.zero_add]
  rfl

theorem recv_inj {c c' : Dev nD} {X X' : Fin 4} {h h' : Fin 3} (e : recvCell c X h = recvCell c' X' h') : c = c' ∧ X = X' ∧ h = h' := by
  have e1 := osem_inj (a₁ := (true, X, h)) (a₂ := (true, X', h')) (congrArg Prod.snd e)
  exact ⟨congrArg (fun g : GSem nD τ sig => g.1.1) e, congrArg (fun k : SK => k.2.1) e1, congrArg (fun k : SK => k.2.2) e1⟩
theorem oweL_recv (a c : Dev nD) (X : Fin 4) (h : Fin 3) (l : List (Fin 4 × Fin 3)) :
    oweL a l (recvCell c X h) () = if a = src X c then l.count (X, h) * N else 0 := by
  induction l with
  | nil => rw [List.count_nil, Nat.zero_mul, ite_self]; rfl
  | cons x l ih =>
    obtain ⟨Y, k⟩ := x
    rw [oweL, Pi.add_apply, Finsupp.add_apply, ih, tallyAt_apply, List.count_cons]
    by_cases hx : (Y, k) = (X, h)
    · obtain ⟨rfl, rfl⟩ := Prod.mk.inj hx
      by_cases ha : a = src Y c
      · subst ha
        rw [if_pos rfl, if_pos rfl, if_pos ⟨by rw [show dst Y (src Y c) = c from nb_opp' _ _], rfl⟩, if_pos (by simp), Nat.add_mul, Nat.one_mul]
      · rw [if_neg ha, if_neg ha, if_neg]
        rintro ⟨e, -⟩
        exact ha (by rw [(recv_inj e).1]; exact (nb_opp _ _).symm)
    · rw [if_neg (show ¬(recvCell c X h = recvCell (dst Y a) Y k ∧ () = ()) from fun e => hx (by obtain ⟨-, h1, h2⟩ := recv_inj e.1; rw [h1, h2])),
        Nat.add_zero, if_neg (show ¬((Y, k) == (X, h)) = true from by simpa using hx), Nat.add_zero]
theorem count_hops : ∀ (X : Fin 4) (h : Fin 3), List.count (X, h) hops = 1 := by decide
theorem owed_recv (a c : Dev nD) (X : Fin 4) (h : Fin 3) : O₀ a (recvCell c X h) () = if a = src X c then N else 0 := by
  unfold O₀
  rw [Pi.add_apply, Finsupp.add_apply, Pi.add_apply, Finsupp.add_apply, oweL_recv, count_hops, Nat.one_mul,
    tallyAt_ne_cell (fun e => osem_ne_bar (true, X, h) (congrArg Prod.snd e)), tallyAt_ne_cell (fun e => osem_ne_bar (true, X, h) (congrArg Prod.snd e))]
  rfl

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq', Finset.sum_ite_eq', if_pos (Finset.mem_univ _), if_pos (Finset.mem_univ _)]
theorem launch_recv (c : Dev nD) (X : Fin 4) (h : Fin 3) :
    tallyOn (recvCell c X h) (launchCredit (Pipeline.owing O₀) 0 (recvCell c X h)) = (tallyAt (recvCell c X h) () N : CellTallies nD τ sig Unit) := by
  unfold tallyAt; refine congrArg _ (Finsupp.ext fun u => ?_); cases u
  rw [Pipeline.launchCredit_owing, Finsupp.single_eq_same, Finset.sum_congr rfl fun d _ => owed_recv d c X h, Finset.sum_ite_eq', if_pos (Finset.mem_univ _)]

def recvs : Fin 3 × Fin 4 ↪ SemLoc sig := ⟨fun k => osem (true, k.2, k.1), fun a b e => by
  have e1 := osem_inj e
  exact Prod.ext (congrArg (fun k : SK => k.2.2) e1) (congrArg (fun k : SK => k.2.1) e1)⟩
theorem creds (c : Dev nD) : (Pipeline.launchCred O₀ c : sProp 𝕄) ⊢ iprop(cred (tallyAt (barCell c) () 2) ∗ all (crdC c)) := by
  unfold Pipeline.launchCred
  rw [bigSep_univ_at _ (SemLoc.reg barS), launch_bar]
  have hsub : Finset.univ.map recvs ⊆ Finset.univ.erase (SemLoc.reg barS : SemLoc sig) := fun sm hsm => by
    obtain ⟨k, -, rfl⟩ := Finset.mem_map.mp hsm
    exact Finset.mem_erase.mpr ⟨osem_ne_bar _, Finset.mem_univ _⟩
  refine sep_mono_right (BI.Entails.trans (bigSep_subset hsub) ?_)
  rw [bigSep_map]
  exact bigSep_mono fun k _ => Entails.of_eq (congrArg cred (launch_recv c k.2 k.1))

/-! ### The segments of @main -/

section
variable (m : (ℓ : Loc nD τ sig) → Buf (Elt F) ℓ) (ρ : Dev nD → PrngReg)

abbrev UC : Finset (DevRef τ sig) := Pipeline.ucRefs τ sig
/-- The buffers at the end. -/
def V₃ (c : Dev nD) : Valuation τ sig (Elt F) := StableHlo.after hostOps1 (V₂ m c)

/-- What rides beside the buffers: before the kernel function, and after it. -/
def R₀ (c : Dev nD) : sProp 𝕄 := iprop(Tk (Bv m) c ∗ (∃ r, prngReg c r) ∗ owing c (O₀ c))
def R₁ (c : Dev nD) : sProp 𝕄 := iprop(semVal (barCell c) 0 ∗ owing c 0)

theorem fresh0 : ∀ op ∈ (hostOps0 : List (HloOp τ sig (Elt F))), op.fresh = ∅ := by
  refine List.forall_iff_forall_mem.mp ?_
  simp only [List.Forall]; repeat' constructor
theorem fresh1 : ∀ op ∈ (hostOps1 : List (HloOp τ sig (Elt F))), op.fresh = ∅ := by
  refine List.forall_iff_forall_mem.mp ?_
  simp only [List.Forall]; repeat' constructor

def seg0 : Pipeline.HostSeg (Name := ℕ) (U := UU) (pcfgs (F := F)) defs₀ 𝒱₀ L lv :=
  Pipeline.HostSeg.ofOps _ _ _ _ _ UC hostOps0 (fun op h => Pipeline.sub_ucRefs op ((List.forall_iff_forall_mem.mp hostOps0_sub) op h)) fresh0 (V₀ m) (R₀ m)
def seg1 : Pipeline.HostSeg (Name := ℕ) (U := UU) (pcfgs (F := F)) defs₀ 𝒱₀ L lv :=
  Pipeline.HostSeg.ofOps _ _ _ _ _ UC hostOps1 (fun op h => Pipeline.sub_ucRefs op ((List.forall_iff_forall_mem.mp hostOps1_sub) op h)) fresh1 (V₂ m) R₁

theorem uc_split (c : Dev nD) (W : Valuation τ sig (Elt F)) : (StableHlo.held (c : Thread nD τ) UC W : sProp 𝕄)
    = iprop(StableHlo.held (c : Thread nD τ) (Pipeline.arrRefs spec0) W ∗ StableHlo.held (c : Thread nD τ) (UC \ Pipeline.arrRefs spec0) W) :=
  StableHlo.held_sub_split (c : Thread nD τ) (Pipeline.arrRefs_sub_ucRefs spec0 launch0.win.arr_unscoped) W

theorem reg_pre (c : Dev nD) : iprop(StableHlo.held (c : Thread nD τ) UC (V₁ m c) ∗ R₀ m c) ⊢ (reg m).pre c := by
  show _ ⊢ iprop(StableHlo.held (c : Thread nD τ) (Pipeline.arrRefs spec0) (V₁ m c) ∗ (∃ r, prngReg c r)
    ∗ (StableHlo.held (c : Thread nD τ) (UC \ Pipeline.arrRefs spec0) (V₁ m c) ∗ emp) ∗ Tk (Bv m) c ∗ ∃ Wd, owes (c : Thread nD τ) (0 + O₀ c) Wd)
  rw [uc_split, zero_add]
  unfold R₀ owing
  iintro ⟨⟨Ha, Hr⟩, HT, Hp, HO⟩
  isplitl [Ha]; · iexact Ha
  isplitl [Hp]; · iexact Hp
  isplitl [Hr]
  · isplitl [Hr]; · iexact Hr
    iempintro
  isplitl [HT] <;> iassumption

theorem reg_post (c : Dev nD) : (reg m).post c ⊢ iprop(StableHlo.held (c : Thread nD τ) UC (V₂ m c) ∗ R₁ c) := by
  show iprop(StableHlo.held (c : Thread nD τ) (Pipeline.arrRefs spec0) (V₂ m c) ∗ (∃ r, prngReg c r)
    ∗ (StableHlo.held (c : Thread nD τ) (UC \ Pipeline.arrRefs spec0) (V₂ m c) ∗ emp) ∗ Yk c ∗ ∃ Wd, owes (c : Thread nD τ) (0 : CellTallies nD τ sig Unit) Wd) ⊢ _
  rw [uc_split]
  unfold R₁ Yk owing
  iintro ⟨Ha, -, ⟨Hr, -⟩, Hb, HO⟩
  isplitl [Ha Hr]; · isplitl [Ha] <;> iassumption
  isplitl [Hb] <;> iassumption

def segs : List (Pipeline.Seg (pcfgs (F := F)) adm (pdats m) () defs₀ 𝒱₀ L lv) := [.host (seg0 m), .region (reg m), .host (seg1 m)]

/-! ### The launch -/

def u₀ : UU := (initOf (Pipeline.cells (Pipeline.pin (pcfgs (F := F)) adm) cellOf_inj) (Pipeline.launchToks (Pipeline.pin (pcfgs (F := F)) adm) cellOf_inj),
  launchOf barCells scCells toks)

/-- `X` on device 0, nothing elsewhere. -/
def on0 (X : sProp 𝕄) (c : Dev nD) : sProp 𝕄 := if c = 0 then X else iprop(emp)
theorem bigSep_on0 (X : sProp 𝕄) : bigSep Finset.univ (on0 X) = X := by
  rw [bigSep_univ_at _ 0, bigSep_congr (s := Finset.univ.erase 0) (Ψ := fun _ => (BI.emp : sProp 𝕄))
      fun c hc => by unfold on0; rw [if_neg (Finset.ne_of_mem_erase hc)]; rfl, BI.bigSep_emp_const]
  unfold on0; rw [if_pos rfl]
  exact BI.equiv_iff.mp sep_emp
def G : Dev nD → sProp 𝕄 := on0 (BI.own (ER (launchOf barCells scCells toks)))

abbrev T₀ (c : Dev nD) : sProp 𝕄 := iprop(StableHlo.held (c : Thread nD τ) UC (V₀ m c) ∗ R₀ m c)
abbrev Tₙ (c : Dev nD) : sProp 𝕄 := iprop(StableHlo.held (c : Thread nD τ) UC (V₃ m c) ∗ semVal (barCell c) 0)

theorem unscoped_eq : ∀ sm : SemLoc sig, sm.isScoped .tc = false → sm = .reg barS := by decide
theorem unscopedSems_eq (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]

/-- What a device has at launch without the schedule's own resources. -/
def plain (c : Dev nD) : sProp 𝕄 := iprop(StableHlo.held (c : Thread nD τ) UC (V₀ m c) ∗ (cred (tallyAt (barCell c) () 2) ∗ all (crdC c))
  ∗ owing c (O₀ c) ∗ ∃ r, prngReg c r)
/-- The schedule's. -/
def dealt (c : Dev nD) : sProp 𝕄 := iprop(atPos ER (barCell c) 0 ∅ 0 ∗ all (openC c) ∗ barToks c ∗ all (tokC c))

theorem T₀_intro (κ : GSem nD τ sig → ℕ) (c : Dev nD) : iprop(records (Bv m) κ ∗ (dealt c ∗ plain m c)) ⊢ T₀ m c := by
  unfold dealt plain T₀ R₀ Tk
  iintro ⟨#HR, ⟨Ha, Ho, Hb, Ht⟩, Hh, ⟨Hc, Hcs⟩, HO, Hp⟩
  isplitl [Hh]; · iexact Hh
  isplitr [HO Hp]
  · isplitr; · iexists κ; iexact HR
    isplitl [Ha Hb Hc]
    · isplitl [Hb]; · iexact Hb
      isplitl [Hc] <;> iassumption
    ihave H := (all_pair (F := F)) $$ [Ho Ht]
    · isplitl [Ho] <;> iassumption
    iapply (all_pair (F := F))
    isplitl [H] <;> iassumption
  isplitl [Hp] <;> iassumption

theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (T₀ m) : sProp 𝕄) := by
  have hcore (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ G c)
      ⊢ (iprop(plain m c ∗ (semVal (barCell c) 0 ∗ G c)) : sProp 𝕄) := by
    rw [show unscopedBufs c (fun b => m ((c : Thread nD τ).loc b)) = StableHlo.held (c : Thread nD τ) UC (V₀ m c) from
        Pipeline.unscopedBufs_held c (V₀ m c), unscopedSems_eq]
    unfold plain owing
    iintro ⟨Hh, Hus, HO, Hcr, Hp, HG⟩
    ihave Hc := (creds (F := F) c) $$ Hcr
    isplitl [Hh Hc HO Hp]
    · isplitl [Hh]; · iexact Hh
      isplitl [Hc]; · iexact Hc
      isplitl [HO]; · iexists ∅; iexact HO
      iexists (ρ c); iexact Hp
    isplitl [Hus] <;> iassumption
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    Entails.of_eq (bigSep_map (s := Finset.univ) barEmb (Φ := fun g : GSem nD τ sig => (atPos ER g 0 ∅ 0 : sProp 𝕄)))
  have hdeal : iprop(bigSep Finset.univ (fun c : Dev nD => (atPos ER (barCell c) 0 ∅ 0 : sProp 𝕄)) ∗ bigSep Finset.univ (fun c : Dev nD => all (openC c))
      ∗ bigSep Finset.univ fun c : Dev nD => iprop(barToks c ∗ all (tokC c))) ⊢ (bigSep Finset.univ fun c : Dev nD => dealt c : sProp 𝕄) := by
    unfold dealt
    iintro ⟨Ha, Ho, Ht⟩
    iapply devs_pair; isplitl [Ha]; · iexact Ha
    iapply devs_pair; isplitl [Ho] <;> iassumption
  iintro ⟨H, -⟩
  ihave H := (show (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c))
      ⊢ (bigSep Finset.univ fun c : Dev nD => iprop(plain m c ∗ (semVal (barCell c) 0 ∗ G c)) : sProp 𝕄) from bigSep_mono fun c _ => hcore c) $$ H
  ihave H := devs_unpair $$ H
  icases H with ⟨HB, H⟩
  ihave H := devs_unpair $$ H
  icases H with ⟨Hv, HG⟩
  ihave Hu := (show bigSep Finset.univ (G (F := F)) ⊢ BI.own (ER (launchOf barCells scCells toks)) from Entails.of_eq (bigSep_on0 (F := F) _)) $$ HG
  imod (Rounds.fund_launch ER (rd (Bv m)) disjoint_cells (fun g _ h => h) toks) $$ [Hv Hu] with ⟨%κ, -, #Hinv, #Hr, Hat, Hopen, Htok⟩
  · isplitl [Hv]
    · iapply hv $$ Hv
    · iexact Hu
  imodintro
  iapply (bigSep_with_persistent (R := records (Bv m) κ) (Φ := fun c => iprop(dealt c ∗ plain m c)) fun c _ => T₀_intro m κ c)
  isplitr
  · unfold records
    isplitr; · iexact Hinv
    iexact Hr
  iapply devs_pair
  isplitr [HB]
  · iapply hdeal
    isplitl [Hat]; · iapply hat $$ Hat
    isplitl [Hopen]; · iapply (Entails.of_eq (opens_deal (F := F))) $$ Hopen
    iapply (Entails.of_eq (toks_deal (F := F))) $$ Htok
  iexact HB

set_option backward.isDefEq.respectTransparency.types false in
/-- Every weakly fair run of @main terminates, and in every final state each device's buffers hold `V₃` and every
    semaphore is at zero. -/
theorem run_main : θ_run defs (onTc (τ := τ) (main (F := F))) ⟨m, fun _ => 0, ρ⟩
    (fun r => (∀ c : Dev nD, ∀ b : Ref sig .tc, b.isScoped = false → r.2.mem ((c : Thread nD τ).loc b) = V₃ m c (Proc.devRef .tc b)) ∧ r.2.sem = fun _ => 0) :=
  Pipeline.θ_run_regions_kit_sems (pcfgs (F := F)) adm (pdats m) () cellOf_inj EP defs₀ 𝒱₀ L lv m ρ main (segs m)
    (fun c Q => by rw [main_segs adm (pdats m) () 𝒱₀ L lv (seg0 m) (seg1 m) (reg m) rfl rfl c]; rfl)
    (by simp only [segs, Pipeline.Seg.pipes_host, Pipeline.Seg.pipes_region, Pipeline.Seg.pipes_nil]; decide)
    (O₀ := O₀) (hL := L_of_ne) (G := G) (u₀ := u₀)
    (hu₀ := by
      unfold u₀ G
      iintro Hu
      ihave H := (ownU_pair _ _) $$ Hu
      icases H with ⟨HP, HX⟩
      imodintro
      isplitl [HP]; · iexact HP
      rw [bigSep_on0]; iexact HX)
    (T₀ := T₀ m) (Tₙ := Tₙ m)
    (hch := by
      refine ⟨fun c => .rfl, fun c => reg_pre m c, fun c => reg_post m c, fun c => ?_⟩
      show iprop(StableHlo.held (c : Thread nD τ) UC (V₃ m c) ∗ R₁ c)
        ⊢ iprop(Tₙ m c ∗ ∃ W, owes (c : Thread nD τ) (0 : CellTallies nD τ sig Unit) W)
      unfold R₁ owing
      iintro ⟨Hh, Hb0, HO⟩
      isplitr [HO]
      · isplitl [Hh] <;> iassumption
      · iexact HO)
    (hinit := init m ρ)
    (QY := fun c s => (∀ b ∈ UC, s.mem ((c : Thread nD τ).1, b) = V₃ m c b) ∧ s.sem (barCell c) = 0)
    (hfin := fun c s' => by
      dsimp only [Tₙ]; unfold StableHlo.held
      iintro ⟨⟨Hh, Hb0⟩, HSI⟩
      icombine HSI Hb0 gives %hb
      ihave Hr := (pointsTo_read_all UC (fun b => ((c : Thread nD τ).1, b)) (V₃ m c) s') $$ [Hh HSI]
      · isplitl [Hh] <;> iassumption
      icases Hr with ⟨%hm, HSI⟩
      imodintro
      isplitr
      · ipureintro
        exact ⟨hm, by simpa using hb⟩
      iexact HSI)
    (hQ := fun s h hs => ⟨fun c b hb => (h c).1 _ (Pipeline.devRef_mem_ucRefs hb),
      sem_eq_zero hs fun c sm hsm => by
        obtain rfl := unscoped_eq sm hsm
        exact (h c).2⟩)
/-! ### The arguments -/

/-- A buffer no host operation writes and no window stages ends as launched. -/
theorem V₃_kept (c : Dev nD) (b : Ref sig .tc) (h0 : ∀ op ∈ (hostOps0 : List (HloOp τ sig (Elt F))), Proc.devRef .tc b ∉ op.writes)
    (h1 : ∀ op ∈ (hostOps1 : List (HloOp τ sig (Elt F))), Proc.devRef .tc b ∉ op.writes) (hw : ∀ w, b ≠ Pipeline.arrRef spec0 w) :
    V₃ m c (Proc.devRef .tc b) = m ((c : Thread nD τ).loc b) := by
  unfold V₃ V₂
  rw [StableHlo.after_of_forall_not_mem _ _ h1, Pipeline.afterRegion_of_not_arr _ _ hw]
  unfold V₁
  rw [StableHlo.after_of_forall_not_mem _ _ h0]
  rfl

theorem V₃_arg0 (c : Dev nD) : V₃ m c (Proc.devRef .tc main_arg0) = m ((c : Thread nD τ).loc main_arg0) :=
  V₃_kept m c main_arg0 (List.forall_iff_forall_mem.mp (by
      simp only [hostOps0, List.Forall, StableHlo.nullary_writes, StableHlo.unary_writes, StableHlo.binary_writes, StableHlo.reshape_writes, Finset.mem_singleton]
      repeat' apply And.intro
      all_goals exact StableHlo.devRef_ne_of_ne (by decide)))
    (List.forall_iff_forall_mem.mp (by
      simp only [hostOps1, List.Forall, StableHlo.unary_writes, StableHlo.reshape_writes, Finset.mem_singleton]
      repeat' apply And.intro
      all_goals exact StableHlo.devRef_ne_of_ne (by decide)))
    (by decide : ∀ w, main_arg0 ≠ Pipeline.arrRef spec0 w)
theorem V₃_arg1 (c : Dev nD) : V₃ m c (Proc.devRef .tc main_arg1) = m ((c : Thread nD τ).loc main_arg1) :=
  V₃_kept m c main_arg1 (List.forall_iff_forall_mem.mp (by
      simp only [hostOps0, List.Forall, StableHlo.nullary_writes, StableHlo.unary_writes, StableHlo.binary_writes, StableHlo.reshape_writes, Finset.mem_singleton]
      repeat' apply And.intro
      all_goals exact StableHlo.devRef_ne_of_ne (by decide)))
    (List.forall_iff_forall_mem.mp (by
      simp only [hostOps1, List.Forall, StableHlo.unary_writes, StableHlo.reshape_writes, Finset.mem_singleton]
      repeat' apply And.intro
      all_goals exact StableHlo.devRef_ne_of_ne (by decide)))
    (by decide : ∀ w, main_arg1 ≠ Pipeline.arrRef spec0 w)
theorem V₃_arg2 (c : Dev nD) : V₃ m c (Proc.devRef .tc main_arg2) = m ((c : Thread nD τ).loc main_arg2) :=
  V₃_kept m c main_arg2 (List.forall_iff_forall_mem.mp (by
      simp only [hostOps0, List.Forall, StableHlo.nullary_writes, StableHlo.unary_writes, StableHlo.binary_writes, StableHlo.reshape_writes, Finset.mem_singleton]
      repeat' apply And.intro
      all_goals exact StableHlo.devRef_ne_of_ne (by decide)))
    (List.forall_iff_forall_mem.mp (by
      simp only [hostOps1, List.Forall, StableHlo.unary_writes, StableHlo.reshape_writes, Finset.mem_singleton]
      repeat' apply And.intro
      all_goals exact StableHlo.devRef_ne_of_ne (by decide)))
    (by decide : ∀ w, main_arg2 ≠ Pipeline.arrRef spec0 w)

/-- The run at the arguments, the result and the semaphores. -/
theorem run_ends : θ_run defs (onTc (τ := τ) (main (F := F))) ⟨m, fun _ => 0, ρ⟩
    (fun r => ((∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)) ∧ r.2.sem = fun _ => 0)
      ∧ ∀ c : Dev nD, r.2.mem ((c.tc : Thread nD τ).loc main_v15) = V₃ m c (Proc.devRef .tc main_v15)) :=
  (θ_run defs _ _).mono (fun _ h => ⟨⟨fun c => ⟨(h.1 c main_arg0 rfl).trans (V₃_arg0 m c), (h.1 c main_arg1 rfl).trans (V₃_arg1 m c),
    (h.1 c main_arg2 rfl).trans (V₃_arg2 m c)⟩, h.2⟩, fun c => h.1 c main_v15 rfl⟩) (run_main m ρ)
end

end Cert.KernelIdeal.Attn

end
-- ==== Proof.KiPay.lean ====
/-
  The kernel's arithmetic over the extended reals, at an index: a group's scores, their exponentials' sums, alone and
  against the values, and the division.
-/
module

public import proofs.«01_k».proof.Proof.KiChunk
public import Idealize.ShloMosaic.Lib.Pointwise
public import Idealize.ShloMosaic.Lib.IdealHost

@[expose] public section

noncomputable section

namespace Cert.KernelIdeal.Attn

open Cert.KernelIdeal Cert.KernelIdeal.Gen
open Idealize.ShloMosaic

/-- The exponential of the score of query row `i` with key `j`, head `a` of the group. -/
def eAt (k : Vec Ideal S8x64x128 .bf16) (q : Vec Ideal S8x256x64 .bf16) (a : Fin 8) (i : Fin 256) (j : Fin 128) : EReal :=
  Ideal.exp (∑ t : Fin 64, q (ix3 a i t) * k (ix3 a t j))

theorem castK_eq (k : Vec Ideal S8x64x128 .bf16) : castK k = k := by
  funext x
  pointwise [castK]

theorem pExp_apply (k : Vec Ideal S8x64x128 .bf16) (q : Vec Ideal S8x256x64 .bf16) (a : Fin 8) (i : Fin 256) (j : Fin 128) :
    pExp k q (ix3 a i j) = eAt k q a i j := by
  pointwise [pExp, eAt]

theorem pSum_apply (k : Vec Ideal S8x64x128 .bf16) (q : Vec Ideal S8x256x64 .bf16) (a : Fin 8) (i : Fin 256) :
    pSum k q (ix2 a i) = ∑ j : Fin 128, eAt k q a i j := by
  pointwise [pSum, pExp, eAt]

theorem pOut_apply (k v : Vec Ideal S8x64x128 .bf16) (q : Vec Ideal S8x256x64 .bf16) (a : Fin 8) (i : Fin 256) (d : Fin 64) :
    pOut k v q (ix3 a i d) = ∑ j : Fin 128, eAt k q a i j * v (ix3 a d j) := by
  pointwise [pOut, pExp, eAt]

theorem dFirst_apply (k : Vec Ideal S8x64x128 .bf16) (q : Vec Ideal S8x256x64 .bf16) (a : Fin 8) (i : Fin 256) :
    dFirst k q (ix2 a i) = ∑ j : Fin 128, eAt k q a i j := by
  rw [← pSum_apply]
  pointwise [dFirst]

theorem dAcc_apply (k : Vec Ideal S8x64x128 .bf16) (q : Vec Ideal S8x256x64 .bf16) (d : Vec Ideal S8x256 .f32) (a : Fin 8) (i : Fin 256) :
    dAcc k q d (ix2 a i) = d (ix2 a i) + ∑ j : Fin 128, eAt k q a i j := by
  rw [← pSum_apply]
  pointwise [dAcc]

theorem oAcc_apply (k v : Vec Ideal S8x64x128 .bf16) (q : Vec Ideal S8x256x64 .bf16) (o : Vec Ideal S8x256x64 .f32) (a : Fin 8) (i : Fin 256)
    (d : Fin 64) : oAcc k v q o (ix3 a i d) = o (ix3 a i d) + ∑ j : Fin 128, eAt k q a i j * v (ix3 a d j) := by
  rw [← pOut_apply]
  pointwise [oAcc]

theorem oDiv_apply (d : Vec Ideal S8x256 .f32) (o : Vec Ideal S8x256x64 .f32) (a : Fin 8) (i : Fin 256) (t : Fin 64) :
    oDiv d o (ix3 a i t) = o (ix3 a i t) * Ideal.div 1 (d (ix2 a i)) := by
  rw [← Ideal.ofBits_one_f32]
  pointwise [oDiv]

end Cert.KernelIdeal.Attn

end
-- ==== Proof.KiTotal.lean ====
/-
  What the kernel leaves over the extended reals: at a query row and a head, the sum over the four devices' keys of the
  exponentials against the values, times the inverse of the exponentials' sum.
-/
module

public import proofs.«01_k».proof.Proof.KiPay
public import proofs.«01_k».proof.Proof.KiBuf
public import proofs.«01_k».proof.Proof.KiWhole

@[expose] public section

noncomputable section

namespace Cert.KernelIdeal.Attn

open Cert.KernelIdeal Cert.KernelIdeal.Gen
open Idealize.ShloMosaic

/-- Row `a` of head group `g`. -/
def row (g : Fin 8) (a : Fin 8) : Fin 64 := ⟨8 * g.val + a.val, by omega⟩

section
variable (Q : S64x256x64.Idx → Elt Ideal .bf16) (K V : S64x64x128.Idx → Elt Ideal .bf16) (r : Fin 64) (i : Fin 256)

/-- The exponential of query row `i`'s score with key `j` of a block, at head row `r`; their sum; their sum against the values. -/
def ex (j : Fin 128) : EReal := Ideal.exp (∑ t : Fin 64, Q (ix3 r i t) * K (ix3 r t j))
def den : EReal := ∑ j : Fin 128, ex Q K r i j
def num (d : Fin 64) : EReal := ∑ j : Fin 128, ex Q K r i j * V (ix3 r d j)
end

theorem grpK_apply (X : S64x64x128.Idx → Elt Ideal .bf16) (g a : Fin 8) (t : Fin 64) (j : Fin 128) :
    grpK X g (ix3 a t j) = X (ix3 (row g a) t j) := by
  unfold grpK
  refine congrArg X (funext fun b => Fin.ext ?_)
  fin_cases b
  · show 8 * g.val + 1 * a.val = 8 * g.val + a.val
    omega
  · show 0 + 1 * t.val = t.val
    omega
  · show 0 + 1 * j.val = j.val
    omega

theorem grpQ_apply (X : S64x256x64.Idx → Elt Ideal .bf16) (g a : Fin 8) (i : Fin 256) (t : Fin 64) :
    grpQ X g (ix3 a i t) = X (ix3 (row g a) i t) := by
  unfold grpQ
  refine congrArg X (funext fun b => Fin.ext ?_)
  fin_cases b
  · show 8 * g.val + 1 * a.val = 8 * g.val + a.val
    omega
  · show 0 + 1 * i.val = i.val
    omega
  · show 0 + 1 * t.val = t.val
    omega

theorem eAt_grp (Q : S64x256x64.Idx → Elt Ideal .bf16) (K : S64x64x128.Idx → Elt Ideal .bf16) (g a : Fin 8) (i : Fin 256) (j : Fin 128) :
    eAt (grpK K g) (grpQ Q g) a i j = ex Q K (row g a) i j := by
  unfold eAt ex
  refine congrArg Ideal.exp (Finset.sum_congr rfl fun t _ => ?_)
  rw [grpK_apply, grpQ_apply]

section
variable (Q : S64x256x64.Idx → Elt Ideal .bf16) (K V : S64x64x128.Idx → Elt Ideal .bf16) (g a : Fin 8) (i : Fin 256) (d : Fin 64) (p : DO Ideal)

theorem stepFirst_den : (stepFirst Q K V g).1 (ix2 a i) = den Q K (row g a) i := by
  unfold stepFirst
  rw [castK_eq]
  refine (dFirst_apply _ _ a i).trans (Finset.sum_congr rfl fun j _ => eAt_grp Q K g a i j)

theorem stepFirst_num : (stepFirst Q K V g).2 (ix3 a i d) = num Q K V (row g a) i d := by
  unfold stepFirst
  rw [castK_eq, castK_eq]
  refine (pOut_apply _ _ _ a i d).trans (Finset.sum_congr rfl fun j _ => ?_)
  rw [eAt_grp, grpK_apply]

theorem stepAcc_den (w : Vec Ideal S8x64x128 .bf16 → Vec Ideal S8x64x128 .bf16) (hw : ∀ k, w k = k) :
    (stepAcc w Q K V g p).1 (ix2 a i) = p.1 (ix2 a i) + den Q K (row g a) i := by
  unfold stepAcc
  rw [hw]
  refine (dAcc_apply _ _ _ a i).trans (congrArg (p.1 (ix2 a i) + ·) (Finset.sum_congr rfl fun j _ => eAt_grp Q K g a i j))

theorem stepAcc_num (w : Vec Ideal S8x64x128 .bf16 → Vec Ideal S8x64x128 .bf16) (hw : ∀ k, w k = k) :
    (stepAcc w Q K V g p).2 (ix3 a i d) = p.2 (ix3 a i d) + num Q K V (row g a) i d := by
  unfold stepAcc
  rw [hw, hw]
  refine (oAcc_apply _ _ _ _ a i d).trans (congrArg (p.2 (ix3 a i d) + ·) (Finset.sum_congr rfl fun j _ => ?_))
  rw [eAt_grp, grpK_apply]
end

/-- The blocks that come along the two ways of the ring are all the devices'. -/
theorem ring_sum (f f' : Dev nD → EReal) (c : Dev nD) :
    f c + f' c + f (src 0 c) + f' (src 2 c) + f (src 0 (src 0 c)) + f' (src 2 (src 2 c)) + f (src 0 (src 0 (src 0 c)))
      + f' (src 2 (src 2 (src 2 c))) = ∑ e : Dev nD, (f e + f' e) := by
  have h0 : ∀ e : Dev nD, src 0 e = ![3, 0, 1, 2] e := by decide
  have h2 : ∀ e : Dev nD, src 2 e = ![1, 2, 3, 0] e := by decide
  rw [Fin.sum_univ_four]
  simp only [h0, h2]
  have hc : ∀ e : Dev nD, e = 0 ∨ e = 1 ∨ e = 2 ∨ e = 3 := by decide
  rcases hc c with rfl | rfl | rfl | rfl <;> simp <;> abel

section
variable (B : Fin 4 → Dev nD → S64x64x128.Idx → Elt Ideal .bf16) (Q : S64x256x64.Idx → Elt Ideal .bf16) (c : Dev nD) (g a : Fin 8)
  (i : Fin 256) (d : Fin 64)

theorem all_den : (sumN B Q c 3 (sumN B Q c 2 (sumN B Q c 1 (sum0 B Q c))) g).1 (ix2 a i)
    = ∑ e : Dev nD, (den Q (B 0 e) (row g a) i + den Q (B 2 e) (row g a) i) := by
  rw [← ring_sum (fun e => den Q (B 0 e) (row g a) i) (fun e => den Q (B 2 e) (row g a) i) c]
  unfold sumN sum0
  simp only [stepAcc_den _ _ _ _ _ _ _ id (fun _ => rfl), stepAcc_den _ _ _ _ _ _ _ castK castK_eq, stepFirst_den]
  rfl

theorem all_num : (sumN B Q c 3 (sumN B Q c 2 (sumN B Q c 1 (sum0 B Q c))) g).2 (ix3 a i d)
    = ∑ e : Dev nD, (num Q (B 0 e) (B 1 e) (row g a) i d + num Q (B 2 e) (B 3 e) (row g a) i d) := by
  rw [← ring_sum (fun e => num Q (B 0 e) (B 1 e) (row g a) i d) (fun e => num Q (B 2 e) (B 3 e) (row g a) i d) c]
  unfold sumN sum0
  simp only [stepAcc_num _ _ _ _ _ _ _ _ id (fun _ => rfl), stepAcc_num _ _ _ _ _ _ _ _ castK castK_eq, stepFirst_num]
  rfl

/-- The output at a head row, a query and a column. -/
theorem out_apply (r : Fin 64) : glue (finG B Q c) (ix3 r i d)
    = (∑ e : Dev nD, (num Q (B 0 e) (B 1 e) r i d + num Q (B 2 e) (B 3 e) r i d))
      * Ideal.div 1 (∑ e : Dev nD, (den Q (B 0 e) r i + den Q (B 2 e) r i)) := by
  have hr : row ⟨r.val / 8, by omega⟩ ⟨r.val % 8, by omega⟩ = r := Fin.ext (by show 8 * (r.val / 8) + r.val % 8 = r.val; omega)
  have hi : inGrp (ix3 r i d) = ix3 (⟨r.val % 8, by omega⟩ : Fin 8) i d := funext fun b => by fin_cases b <;> rfl
  unfold glue
  rw [hi]
  show (finG B Q c ⟨r.val / 8, _⟩).2 _ = _
  unfold finG stepDiv
  refine (oDiv_apply _ _ _ i d).trans ?_
  rw [all_den, all_num, hr]
end

end Cert.KernelIdeal.Attn

end
-- ==== Proof.KiRead.lean ====
/-
  The kernel function's windows and the host operations around it, read at an index: what the queries and the four
  blocks are of the arguments, and what the result is of the kernel function's output.
-/
module

public import proofs.«01_k».proof.Proof.KiTotal
public import proofs.«01_k».proof.Proof.KiRun
public import Idealize.ShloMosaic.Lib.Pipeline.Value

@[expose] public section

noncomputable section

namespace Cert.KernelIdeal.Attn

open Cert.KernelIdeal Cert.KernelIdeal.Gen
open Idealize.ShloMosaic Idealize.ShloMosaic.TcCoe
open Idealize.ShloMosaic.Pipeline (Dat Cfg Window)

section
variable {F : FTy → Type} [FloatOps F] (m : (ℓ : Loc nD τ sig) → Buf (Elt F) ℓ) (c : Dev nD)

theorem emb0 (x : S64x256x64.Idx) : ((cfg0.win 0).blk t0_0).view.emb x = x :=
  funext fun a => Fin.ext ((Window.rect_emb_val_of_index_zero (cfg0.win 0) t0_0 a (by fin_cases a <;> rfl) x))
theorem emb1 (x : S64x64x128.Idx) : ((cfg0.win 1).blk t0_0).view.emb x = x :=
  funext fun a => Fin.ext ((Window.rect_emb_val_of_index_zero (cfg0.win 1) t0_0 a (by fin_cases a <;> rfl) x))
theorem emb2 (x : S64x64x128.Idx) : ((cfg0.win 2).blk t0_0).view.emb x = x :=
  funext fun a => Fin.ext ((Window.rect_emb_val_of_index_zero (cfg0.win 2) t0_0 a (by fin_cases a <;> rfl) x))
theorem emb3 (x : S64x64x128.Idx) : ((cfg0.win 3).blk t0_0).view.emb x = x :=
  funext fun a => Fin.ext ((Window.rect_emb_val_of_index_zero (cfg0.win 3) t0_0 a (by fin_cases a <;> rfl) x))
theorem emb4 (x : S64x64x128.Idx) : ((cfg0.win 4).blk t0_0).view.emb x = x :=
  funext fun a => Fin.ext ((Window.rect_emb_val_of_index_zero (cfg0.win 4) t0_0 a (by fin_cases a <;> rfl) x))
theorem emb5 (x : S64x256x64.Idx) : ((cfg0.win 5).blk t0_0).view.emb x = x :=
  funext fun a => Fin.ext ((Window.rect_emb_val_of_index_zero (cfg0.win 5) t0_0 a (by fin_cases a <;> rfl) x))

theorem Qv_eq : Qv m c = V₁ m c (Proc.devRef .tc main_v4) := funext fun x => congrArg (V₁ m c (Proc.devRef .tc main_v4)) (emb0 x)
theorem Bv0_eq : Bv m 0 c = V₁ m c (Proc.devRef .tc main_v9) := funext fun x => congrArg (V₁ m c (Proc.devRef .tc main_v9)) (emb1 x)
theorem Bv2_eq : Bv m 2 c = V₁ m c (Proc.devRef .tc main_v10) := funext fun x => congrArg (V₁ m c (Proc.devRef .tc main_v10)) (emb2 x)
theorem Bv1_eq : Bv m 1 c = V₁ m c (Proc.devRef .tc main_v11) := funext fun x => congrArg (V₁ m c (Proc.devRef .tc main_v11)) (emb3 x)
theorem Bv3_eq : Bv m 3 c = V₁ m c (Proc.devRef .tc main_v12) := funext fun x => congrArg (V₁ m c (Proc.devRef .tc main_v12)) (emb4 x)

theorem V2_out : V₂ m c (Proc.devRef .tc main_v13) = outv m c := by
  refine (Pipeline.afterRegion_arr (dat0 m c) (V₁ m c) launch0.win.arr_inj 5).trans ?_
  refine (dat0 m c).arrAt_eq_of_cover 5 (outv m c) (fun t _ => ?_) (fun i => ⟨t0_0, rfl, ?_⟩)
  · obtain rfl := fin_N0 t
    exact funext fun x => (congrArg (outv m c) (emb5 x)).symm
  · have h := ((cfg0.win 5).blk t0_0).view.emb_mem_set i
    rw [emb5 i] at h
    exact h
end

section
variable (m : (ℓ : Loc nD τ sig) → Buf (Elt Ideal) ℓ) (c : Dev nD)

/-- The arguments on a device. -/
def a0 : Vec Ideal S4x256x16x64 .bf16 := m ((c : Thread nD τ).loc main_arg0)
def a1 : Vec Ideal S4x256x16x64 .bf16 := m ((c : Thread nD τ).loc main_arg1)
def a2 : Vec Ideal S4x256x16x64 .bf16 := m ((c : Thread nD τ).loc main_arg2)

/-- The row of a batch and a head. -/
def hd (b : Fin 4) (h : Fin 16) : Fin 64 := ⟨b.val * 16 + h.val, by omega⟩

theorem Qv_apply (b : Fin 4) (h : Fin 16) (q : Fin 256) (t : Fin 64) :
    Qv m c (ix3 (hd b h) q t) = a0 m c (ix4 b q h t) * Ideal.ofBits .bf16 0x3E00#16 := by
  have e : V₁ m c (Proc.devRef .tc main_v4) = shapeCast S64x256x64 (transpose S4x16x256x64 [0, 2, 1, 3]
      (mulf (F := Ideal) (a0 m c) (broadcastInDim S4x256x16x64 ![] bcast_S_S4x256x16x64 (constant (F := Ideal) S_ .bf16 0x3E00#16)))
      transposes_S4x256x16x64_S4x16x256x64_0_2_1_3) shapeCasts_S4x16x256x64_S64x256x64 := by
    unfold V₁ V₀ a0
    after_results
    rfl
  rw [Qv_eq, e]
  pointwise [hd]

/-- Key `j` of the first half of a device's keys, and of the second. -/
def lo (j : Fin 128) : Fin 256 := ⟨j.val, by omega⟩
def hi (j : Fin 128) : Fin 256 := ⟨128 + j.val, by omega⟩

theorem Bv0_apply (b : Fin 4) (h : Fin 16) (t : Fin 64) (j : Fin 128) : Bv m 0 c (ix3 (hd b h) t j) = a1 m c (ix4 b (lo j) h t) := by
  have e : V₁ m c (Proc.devRef .tc main_v9) = extractStridedSlice S64x64x128 ![0, 0, 0] (shapeCast S64x64x256
      (transpose S4x16x64x256 [0, 2, 3, 1] (a1 m c) transposes_S4x256x16x64_S4x16x64x256_0_2_3_1)
      shapeCasts_S4x16x64x256_S64x64x256) slices_S64x64x256_S64x64x128_0_0_0 := by
    unfold V₁ V₀ a1
    after_results
    rfl
  rw [Bv0_eq, e]
  pointwise [hd, lo]

theorem Bv2_apply (b : Fin 4) (h : Fin 16) (t : Fin 64) (j : Fin 128) : Bv m 2 c (ix3 (hd b h) t j) = a1 m c (ix4 b (hi j) h t) := by
  have e : V₁ m c (Proc.devRef .tc main_v10) = extractStridedSlice S64x64x128 ![0, 0, 128] (shapeCast S64x64x256
      (transpose S4x16x64x256 [0, 2, 3, 1] (a1 m c) transposes_S4x256x16x64_S4x16x64x256_0_2_3_1)
      shapeCasts_S4x16x64x256_S64x64x256) slices_S64x64x256_S64x64x128_0_0_128 := by
    unfold V₁ V₀ a1
    after_results
    rfl
  rw [Bv2_eq, e]
  pointwise [hd, hi]

theorem Bv1_apply (b : Fin 4) (h : Fin 16) (t : Fin 64) (j : Fin 128) : Bv m 1 c (ix3 (hd b h) t j) = a2 m c (ix4 b (lo j) h t) := by
  have e : V₁ m c (Proc.devRef .tc main_v11) = extractStridedSlice S64x64x128 ![0, 0, 0] (shapeCast S64x64x256
      (transpose S4x16x64x256 [0, 2, 3, 1] (a2 m c) transposes_S4x256x16x64_S4x16x64x256_0_2_3_1)
      shapeCasts_S4x16x64x256_S64x64x256) slices_S64x64x256_S64x64x128_0_0_0 := by
    unfold V₁ V₀ a2
    after_results
    rfl
  rw [Bv1_eq, e]
  pointwise [hd, lo]

theorem Bv3_apply (b : Fin 4) (h : Fin 16) (t : Fin 64) (j : Fin 128) : Bv m 3 c (ix3 (hd b h) t j) = a2 m c (ix4 b (hi j) h t) := by
  have e : V₁ m c (Proc.devRef .tc main_v12) = extractStridedSlice S64x64x128 ![0, 0, 128] (shapeCast S64x64x256
      (transpose S4x16x64x256 [0, 2, 3, 1] (a2 m c) transposes_S4x256x16x64_S4x16x64x256_0_2_3_1)
      shapeCasts_S4x16x64x256_S64x64x256) slices_S64x64x256_S64x64x128_0_0_128 := by
    unfold V₁ V₀ a2
    after_results
    rfl
  rw [Bv3_eq, e]
  pointwise [hd, hi]

/-- The result at a batch, a query, a head and a column. -/
theorem result_apply (b : Fin 4) (q : Fin 256) (h : Fin 16) (d : Fin 64) :
    (V₃ m c (Proc.devRef .tc main_v15) : S4x256x16x64.Idx → EReal) (ix4 b q h d) = outv m c (ix3 (hd b h) q d) := by
  have e : V₃ m c (Proc.devRef .tc main_v15) = transpose S4x256x16x64 [0, 2, 1, 3]
      (shapeCast S4x16x256x64 (V₂ m c (Proc.devRef .tc main_v13)) shapeCasts_S64x256x64_S4x16x256x64)
      transposes_S4x16x256x64_S4x256x16x64_0_2_1_3 := by
    unfold V₃
    after_results
    rfl
  rw [e, V2_out]
  pointwise [hd]

end

end Cert.KernelIdeal.Attn

end
-- ==== Proof.Softmax.lean ====
/-
  Softmax over the extended reals: weights of finite scores taken against their greatest and divided one by one are the
  weights taken as they are and divided at the end.
-/
module

public import Idealize.ShloMosaic.Lib.IdealHost

@[expose] public section

noncomputable section

namespace Cert.Attn

open Idealize.ShloMosaic

theorem exp_real (x : ℝ) : Ideal.exp (x : EReal) = ((Real.exp x : ℝ) : EReal) := rfl

theorem sum_real {ι : Type} (u : Finset ι) (f : ι → ℝ) : (∑ j ∈ u, (f j : EReal)) = ((∑ j ∈ u, f j : ℝ) : EReal) := by
  classical
  induction u using Finset.induction_on with
  | empty => simp
  | insert a u ha ih => rw [Finset.sum_insert ha, Finset.sum_insert ha, ih, EReal.coe_add]

theorem div_real (x y : ℝ) (hy : y ≠ 0) : Ideal.div (x : EReal) (y : EReal) = ((x * y⁻¹ : ℝ) : EReal) := by
  unfold Ideal.div
  rw [if_neg (by exact_mod_cast hy), ← EReal.coe_inv, EReal.coe_mul]

/-- A finite factor that is not negative goes through a sum. -/
theorem sum_mul_real {ι : Type} (u : Finset ι) (f : ι → EReal) (r : ℝ) (hr : 0 ≤ r) : (∑ j ∈ u, f j) * (r : EReal) = ∑ j ∈ u, f j * (r : EReal) := by
  classical
  induction u using Finset.induction_on with
  | empty => simp
  | insert a u ha ih =>
    rw [Finset.sum_insert ha, Finset.sum_insert ha, ← ih]
    exact EReal.right_distrib_of_nonneg_of_ne_top (by exact_mod_cast hr) (EReal.coe_ne_top r) _ _

theorem softmax_eq {ι : Type} [Fintype ι] [Nonempty ι] (s : ι → ℝ) (v : ι → EReal) (μ : ℝ) :
    (∑ j, Ideal.exp (s j : EReal) * v j) * Ideal.div 1 (∑ j, Ideal.exp (s j : EReal))
      = ∑ j, v j * Ideal.div (Ideal.exp ((s j : EReal) - (μ : EReal))) (∑ k, Ideal.exp ((s k : EReal) - (μ : EReal))) := by
  have hD : 0 < ∑ j, Real.exp (s j) := Finset.sum_pos (fun j _ => Real.exp_pos _) Finset.univ_nonempty
  have hE : 0 < ∑ j, Real.exp (s j - μ) := Finset.sum_pos (fun j _ => Real.exp_pos _) Finset.univ_nonempty
  have hs : (∑ j, Real.exp (s j - μ)) * Real.exp μ = ∑ j, Real.exp (s j) := by
    rw [Finset.sum_mul]
    exact Finset.sum_congr rfl fun j _ => by rw [← Real.exp_add]; congr 1; ring
  simp only [← EReal.coe_sub, exp_real, sum_real]
  rw [show (1 : EReal) = ((1 : ℝ) : EReal) from rfl, div_real _ _ hD.ne', sum_mul_real _ _ _ (by positivity)]
  refine Finset.sum_congr rfl fun j _ => ?_
  rw [div_real _ _ hE.ne', mul_comm ((Real.exp (s j) : ℝ) : EReal) (v j), mul_assoc, ← EReal.coe_mul]
  congr 2
  rw [← hs, one_mul, mul_inv, Real.exp_sub]
  field_simp

/-- The greatest of finitely many finite numbers, against `-∞`, is finite. -/
theorem fold_max_real {ι : Type} [DecidableEq ι] (s : ι → ℝ) (u : Finset ι) : (u = ∅ ∧ u.fold max (⊥ : EReal) (fun j => (s j : EReal)) = ⊥)
    ∨ ∃ μ : ℝ, u.fold max (⊥ : EReal) (fun j => (s j : EReal)) = (μ : EReal) := by
  induction u using Finset.induction_on with
  | empty => exact Or.inl ⟨rfl, rfl⟩
  | insert a u ha ih =>
    refine Or.inr ?_
    rw [Finset.fold_insert ha]
    rcases ih with ⟨_, h⟩ | ⟨μ, h⟩
    · exact ⟨s a, by rw [h]; exact max_bot_right _⟩
    · exact ⟨max (s a) μ, by rw [h]; exact (EReal.coe_strictMono.monotone.map_max).symm⟩

/-- A finite extended real is a real. -/
theorem real_of_abs {x : EReal} (h : max x (-x) < ⊤) : ∃ r : ℝ, x = (r : EReal) := by
  induction x with
  | bot => simp at h
  | top => simp at h
  | coe r => exact ⟨r, rfl⟩

end Cert.Attn

end
-- ==== Proof.RefVal.lean ====
/-
  The reference's result at an index: the values weighted by the softmax of the scaled scores.
-/
module

public import proofs.«01_k».proof.Proof.Softmax
public import proofs.«01_k».proof.Proof.Gen.ReferenceIdeal
public import proofs.«01_k».proof.Proof.Gen.ReferenceIdeal.Run
public import Idealize.ShloMosaic.Lib.Pointwise

@[expose] public section

noncomputable section

namespace Cert.ReferenceIdeal.Attn

open Cert.ReferenceIdeal Cert.ReferenceIdeal.Gen
open Idealize.ShloMosaic

variable (Q K V : Vec Ideal S4x1024x16x64 .bf16)

/-- The reference's operations, in four stages. -/
def score : Vec Ideal S4x16x1024x1024 .f32 :=
  mulf (F := Ideal) (Host.dotGeneral (φ₁ := .bf16) (φ₂ := .bf16) dot_S4x1024x16x64_S4x1024x16x64_S4x16x1024x1024_3_3_1_1_02_02 none Q K)
    (broadcastInDim S4x16x1024x1024 ![] bcast_S_S4x16x1024x1024 (constant (F := Ideal) S_ .f32 0x3E000000#32))
def weight (s : Vec Ideal S4x16x1024x1024 .f32) : Vec Ideal S4x16x1024x1024 .f32 :=
  Host.exp (F := Ideal) (subf (F := Ideal) s (broadcastInDim S4x16x1024x1024 ![0, 1, 2, 3] bcast_S4x16x1024x1_S4x16x1024x1024_0_1_2_3
    (broadcastInDim S4x16x1024x1 ![0, 1, 2] bcast_S4x16x1024_S4x16x1024x1_0_1_2
      (Host.reduce (FloatOps.maximumf (F := Ideal) (φ := .f32)) s (constant (F := Ideal) S_ .f32 0xFF800000#32) reducesTo_S4x16x1024x1024_S4x16x1024_d3 h_S_))))
def share (w : Vec Ideal S4x16x1024x1024 .f32) : Vec Ideal S4x16x1024x1024 .f32 :=
  Host.divf (F := Ideal) w (broadcastInDim S4x16x1024x1024 ![0, 1, 2, 3] bcast_S4x16x1024x1_S4x16x1024x1024_0_1_2_3
    (broadcastInDim S4x16x1024x1 ![0, 1, 2] bcast_S4x16x1024_S4x16x1024x1_0_1_2
      (Host.reduceAdd (F := Ideal) w (constant (F := Ideal) S_ .f32 0x00000000#32) reducesTo_S4x16x1024x1024_S4x16x1024_d3 h_S_)))
def result : Vec Ideal S4x1024x16x64 .f32 :=
  transpose S4x1024x16x64 [0, 3, 1, 2] (Host.dotGeneral (F := Ideal) (φ₁ := .f32) (φ₂ := .f32) dot_S4x1024x16x64_S4x16x1024x1024_S4x16x64x1024_1_3_3_2_02_01 none
    (extf (F := Ideal) .f32 V bitsLt_bf16_f32) (share (weight (score Q K)))) transposes_S4x16x64x1024_S4x1024x16x64_0_3_1_2

theorem score_apply (b : Fin 4) (h : Fin 16) (i j : Fin 1024) :
    score Q K (ix4 b h i j) = (∑ t : Fin 64, Q (ix4 b i h t) * K (ix4 b j h t)) * Ideal.ofBits .f32 0x3E000000#32 := by
  pointwise [score]

theorem weight_apply (s : Vec Ideal S4x16x1024x1024 .f32) (b : Fin 4) (h : Fin 16) (i j : Fin 1024) :
    weight s (ix4 b h i j) = Ideal.exp (s (ix4 b h i j) - Finset.univ.fold max (Ideal.ofBits .f32 0xFF800000#32) fun k : Fin 1024 => s (ix4 b h i k)) := by
  pointwise [weight]

theorem share_apply (w : Vec Ideal S4x16x1024x1024 .f32) (b : Fin 4) (h : Fin 16) (i j : Fin 1024) :
    share w (ix4 b h i j) = Ideal.div (w (ix4 b h i j)) (∑ k : Fin 1024, w (ix4 b h i k)) := by
  pointwise [share]

theorem result_apply (b : Fin 4) (i : Fin 1024) (h : Fin 16) (d : Fin 64) :
    result Q K V (ix4 b i h d) = ∑ j : Fin 1024, V (ix4 b j h d) * share (weight (score Q K)) (ix4 b h i j) := by
  pointwise [result]

/-- Of finite scores: the sum of the exponentials against the values, times the inverse of the exponentials' sum. -/
theorem result_real (b : Fin 4) (i : Fin 1024) (h : Fin 16) (d : Fin 64) (s : Fin 1024 → ℝ) (hs : ∀ j, score Q K (ix4 b h i j) = (s j : EReal)) :
    result Q K V (ix4 b i h d) = (∑ j, Ideal.exp (s j : EReal) * V (ix4 b j h d)) * Ideal.div 1 (∑ j, Ideal.exp (s j : EReal)) := by
  have hbot : Ideal.ofBits .f32 0xFF800000#32 = ⊥ := by simp [Ideal.ofBits, Ideal.ieee]
  obtain ⟨μ, hμ⟩ : ∃ μ : ℝ, (Finset.univ.fold max (⊥ : EReal) fun j => (s j : EReal)) = (μ : EReal) := by
    rcases Cert.Attn.fold_max_real s Finset.univ with ⟨h0, _⟩ | h1
    · exact absurd h0 (Finset.univ_nonempty.ne_empty)
    · exact h1
  rw [result_apply, Cert.Attn.softmax_eq s (fun j => V (ix4 b j h d)) μ]
  simp only [share_apply, weight_apply, hs, hbot, hμ]

end Cert.ReferenceIdeal.Attn

end
-- ==== Proof.Algebra.lean ====
/-
  The kernel's result on a device is that device's block of the reference's: the keys of the four devices, each in two
  halves, are the reference's keys.
-/
module

public import proofs.«01_k».proof.Proof.KiRead
public import proofs.«01_k».proof.Proof.RefVal
public import Idealize.ShloMosaic.Lib.Layout

@[expose] public section

noncomputable section

namespace Cert.KernelIdeal.Attn

open Cert.KernelIdeal Cert.KernelIdeal.Gen
open Idealize.ShloMosaic Idealize.ShloMosaic.TcCoe

/-- Row `i` of a device's block, in the whole array. -/
def key (e : Dev nD) (i : Fin 256) : Fin 1024 := ⟨e.val * 256 + i.val, by have h : e.val < 4 := e.isLt; omega⟩

theorem key_surj (k : Fin 1024) : ∃ e i, key e i = k :=
  ⟨(⟨k.val / 256, by omega⟩ : Fin 4), ⟨k.val % 256, by omega⟩, Fin.ext (by show k.val / 256 * 256 + k.val % 256 = k.val; omega)⟩

/-- Every index of the whole array is a row of some device's block. -/
theorem whole_idx (y : Cert.ReferenceIdeal.S4x1024x16x64.Idx) :
    ∃ (e : Dev nD) (b : Fin 4) (i : Fin 256) (h : Fin 16) (t : Fin 64), y = ix4 b (key e i) h t := by
  obtain ⟨e, i, hk⟩ := key_surj (y 1)
  refine ⟨e, y 0, i, y 2, y 3, funext fun a => ?_⟩
  fin_cases a
  · rfl
  · exact hk.symm
  · rfl
  · rfl

/-- The sum over all keys, device by device and half by half. -/
theorem sum_keys (f : Fin 1024 → EReal) :
    (∑ e : Dev nD, ((∑ j : Fin 128, f (key e (lo j))) + ∑ j : Fin 128, f (key e (hi j)))) = ∑ k, f k := by
  have h : ∀ e : Dev nD, ((∑ j : Fin 128, f (key e (lo j))) + ∑ j : Fin 128, f (key e (hi j))) = ∑ i : Fin 256, f (key e i) := fun e =>
    (Fin.sum_univ_add (a := 128) (b := 128) fun i : Fin (128 + 128) => f (key e i)).symm
  simp only [h]
  rw [← Equiv.sum_comp (finProdFinEquiv (m := 4) (n := 256)) f, Fintype.sum_prod_type]
  refine Finset.sum_congr rfl fun e _ => Finset.sum_congr rfl fun i _ => congrArg f (Fin.ext ?_)
  show e.val * 256 + i.val = i.val + 256 * e.val
  omega

theorem scale_bf16 : Ideal.ofBits .bf16 0x3E00#16 = ((1 / 8 : ℝ) : EReal) := by
  simp [Ideal.ofBits, Ideal.ieee, -EReal.coe_mul]; norm_num
theorem scale_f32 : Ideal.ofBits .f32 0x3E000000#32 = ((1 / 8 : ℝ) : EReal) := by
  simp [Ideal.ofBits, Ideal.ieee, -EReal.coe_mul]; norm_num
theorem inf_bf16 : Ideal.ofBits .bf16 0x7F80#16 = ⊤ := by simp [Ideal.ofBits, Ideal.ieee]

section
variable (m : (ℓ : Loc nD τ sig) → Buf (Elt Ideal) ℓ) (Q K V : Vec Ideal Cert.ReferenceIdeal.S4x1024x16x64 .bf16)
  (hQ : ∀ c b i h t, a0 m c (ix4 b i h t) = Q (ix4 b (key c i) h t))
  (hK : ∀ c b i h t, a1 m c (ix4 b i h t) = K (ix4 b (key c i) h t))
  (hV : ∀ c b i h t, a2 m c (ix4 b i h t) = V (ix4 b (key c i) h t))
include hQ hK hV

/-- The kernel scales the queries, the reference the scores. -/
theorem score_eq (c e : Dev nD) (b : Fin 4) (h : Fin 16) (q i : Fin 256) (B : S64x64x128.Idx → Elt Ideal .bf16) (j : Fin 128)
    (hB : ∀ t, B (ix3 (hd b h) t j) = a1 m e (ix4 b i h t)) :
    ex (Qv m c) B (hd b h) q j = Ideal.exp (Cert.ReferenceIdeal.Attn.score Q K (ix4 b h (key c q) (key e i))) := by
  unfold ex
  rw [Cert.ReferenceIdeal.Attn.score_apply, scale_f32, Cert.Attn.sum_mul_real _ _ _ (by norm_num)]
  refine congrArg Ideal.exp (Finset.sum_congr rfl fun t _ => ?_)
  rw [Qv_apply, hB, hQ, hK, scale_bf16]
  exact mul_right_comm _ _ _

theorem value_eq (rQ : ∀ x, ∃ r : ℝ, Q x = (r : EReal)) (rK : ∀ x, ∃ r : ℝ, K x = (r : EReal))
    (c : Dev nD) (b : Fin 4) (q : Fin 256) (h : Fin 16) (d : Fin 64) :
    outv m c (ix3 (hd b h) q d) = Cert.ReferenceIdeal.Attn.result Q K V (ix4 b (key c q) h d) := by
  choose Q' hQ' using rQ
  choose K' hK' using rK
  have hs : ∀ j, Cert.ReferenceIdeal.Attn.score Q K (ix4 b h (key c q) j)
      = (((∑ t : Fin 64, Q' (ix4 b (key c q) h t) * K' (ix4 b j h t)) * (1 / 8) : ℝ) : EReal) := fun j => by
    rw [Cert.ReferenceIdeal.Attn.score_apply, scale_f32, EReal.coe_mul, ← Cert.Attn.sum_real]
    simp only [hQ', hK', EReal.coe_mul]
  rw [Cert.ReferenceIdeal.Attn.result_real Q K V b (key c q) h d _ hs]
  simp only [← hs]
  unfold outv
  rw [out_apply, ← sum_keys, ← sum_keys]
  have e0 : ∀ e j, ex (Qv m c) (Bv m 0 e) (hd b h) q j = Ideal.exp (Cert.ReferenceIdeal.Attn.score Q K (ix4 b h (key c q) (key e (lo j)))) :=
    fun e j => score_eq m Q K V hQ hK hV c e b h q (lo j) _ j fun t => Bv0_apply m e b h t j
  have e2 : ∀ e j, ex (Qv m c) (Bv m 2 e) (hd b h) q j = Ideal.exp (Cert.ReferenceIdeal.Attn.score Q K (ix4 b h (key c q) (key e (hi j)))) :=
    fun e j => score_eq m Q K V hQ hK hV c e b h q (hi j) _ j fun t => Bv2_apply m e b h t j
  unfold num den
  simp only [e0, e2, Bv1_apply, Bv3_apply, hV]
end

end Cert.KernelIdeal.Attn

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KRun
public import proofs.«01_k».proof.Proof.KiRun
public import proofs.«01_k».proof.Proof.Algebra
public import Idealize.ShloMosaic.Adequacy
public import Idealize.ShloMosaic.Init

@[expose] public section

noncomputable section

namespace Cert.Proof

open Idealize.ShloMosaic Idealize.SL.Sem

/-- The kernel's frame, with its counters. -/
theorem frame_p : Cert.quiescent_Kernel := fun m g _ =>
  (θ_run Cert.Kernel.defs _ _).mono (fun _ h => h.1) (Cert.Kernel.Attn.run_ends (F := Bits) m g)

/-- The same of the program read at the ideal floats. -/
theorem frame_pi : Cert.quiescent_KernelIdeal := fun m g _ =>
  (θ_run Cert.KernelIdeal.defs _ _).mono (fun _ h => h.1) (Cert.KernelIdeal.Attn.run_ends (F := Ideal) m g)

/-- The reference writes no argument and declares no semaphore. -/
theorem frame_ri : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

theorem pre_facts : Cert.Pre_finite_scores_KernelIdeal.Facts := ⟨by decide⟩
theorem pre_ref_facts : Cert.Pre_finite_scores_ReferenceIdeal.Facts := ⟨by decide⟩

/-- Under the precondition every query and every key is a real number. -/
theorem finite_of_pre (m : (ℓ : Loc Cert.KernelIdeal.nD Cert.KernelIdeal.τ Cert.KernelIdeal.sig) → Buf (Elt Ideal) ℓ)
    (h : Cert.Pre_KernelIdeal_finite_scores_KernelIdeal (hPre_finite_scores_KernelIdeal := pre_facts) m) (c : Dev Cert.KernelIdeal.nD)
    (x : Cert.KernelIdeal.S4x256x16x64.Idx) :
    (∃ r : ℝ, Cert.KernelIdeal.Attn.a0 m c x = (r : EReal)) ∧ ∃ r : ℝ, Cert.KernelIdeal.Attn.a1 m c x = (r : EReal) := by
  have key : ∀ y z : EReal, (BitVec.ofBool (decide (max y (-y) < Ideal.ofBits .bf16 0x7F80#16)))
      &&& (BitVec.ofBool (decide (max z (-z) < Ideal.ofBits .bf16 0x7F80#16))) = 1#1 → (∃ r : ℝ, y = (r : EReal)) ∧ ∃ r : ℝ, z = (r : EReal) := by
    intro y z e
    rw [Cert.KernelIdeal.Attn.inf_bf16] at e
    by_cases hy : max y (-y) < ⊤
    · by_cases hz : max z (-z) < ⊤
      · exact ⟨Cert.Attn.real_of_abs hy, Cert.Attn.real_of_abs hz⟩
      · simp [hz] at e
    · simp [hy] at e
  exact key _ _ (congrFun (h c) x)

/-- The four devices' results are the blocks of the reference's. -/
theorem algebraic : Cert.algebraic_KernelIdeal_ReferenceIdeal_pre_finite_scores_KernelIdeal (hPre_finite_scores_KernelIdeal := pre_facts) := by
  intro m g m' g' hpre hm
  refine ⟨Cert.ReferenceIdeal.Attn.result (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2)),
    (θ_run Cert.KernelIdeal.defs _ _).mono (fun r h c => ⟨(h.2 c).trans ?_, h.1.1 c⟩) (Cert.KernelIdeal.Attn.run_ends (F := Ideal) m g),
    (θ_run Cert.ReferenceIdeal.defs _ _).mono (fun r h => h 0) (Cert.ReferenceIdeal.Value.run (F := Ideal) m' g')⟩
  have idx : ∀ (e : Fin 4) (b : Fin 4) (i : Fin 256) (h : Fin 16) (t : Fin 64) (T : Layout.Tiles ⟨4, ![4, 256, 16, 64]⟩ ⟨4, ![4, 1024, 16, 64]⟩ 1 4),
      T.idx e (ix4 b i h t) = ix4 b (Cert.KernelIdeal.Attn.key e i) h t := fun e b i h t T =>
    funext fun a => by fin_cases a <;> rfl
  have h0 : ∀ e b i h t, Cert.KernelIdeal.Attn.a0 m e (ix4 b i h t) = _ := fun e b i h t =>
    (congrFun (hm e).1 (ix4 b i h t)).trans (congrArg (m' _) (idx e b i h t _))
  have h1 : ∀ e b i h t, Cert.KernelIdeal.Attn.a1 m e (ix4 b i h t) = _ := fun e b i h t =>
    (congrFun (hm e).2.1 (ix4 b i h t)).trans (congrArg (m' _) (idx e b i h t _))
  have h2 : ∀ e b i h t, Cert.KernelIdeal.Attn.a2 m e (ix4 b i h t) = _ := fun e b i h t =>
    (congrFun (hm e).2.2 (ix4 b i h t)).trans (congrArg (m' _) (idx e b i h t _))
  funext x
  obtain ⟨b, q, h, d, rfl⟩ : ∃ (b : Fin 4) (q : Fin 256) (h : Fin 16) (d : Fin 64), x = ix4 b q h d :=
    ⟨x 0, x 1, x 2, x 3, funext fun a => by fin_cases a <;> rfl⟩
  refine (Cert.KernelIdeal.Attn.result_apply m c b q h d).trans ?_
  refine (Cert.KernelIdeal.Attn.value_eq m _ _ _ h0 h1 h2 ?_ ?_ c b q h d).trans ?_
  · intro y
    obtain ⟨e, b', i, h', t, rfl⟩ := Cert.KernelIdeal.Attn.whole_idx y
    obtain ⟨r, hr⟩ := (finite_of_pre m hpre e (ix4 b' i h' t)).1
    exact ⟨r, (h0 e b' i h' t).symm.trans hr⟩
  · intro y
    obtain ⟨e, b', i, h', t, rfl⟩ := Cert.KernelIdeal.Attn.whole_idx y
    obtain ⟨r, hr⟩ := (finite_of_pre m hpre e (ix4 b' i h' t)).2
    exact ⟨r, (h1 e b' i h' t).symm.trans hr⟩
  · exact congrArg _ (idx c b q h d _).symm

theorem claim : Cert.Claim := ⟨Cert.Kernel.Gen.facts, Cert.KernelIdeal.Gen.facts, Cert.ReferenceIdeal.Gen.facts, pre_facts, pre_ref_facts,
  frame_p, frame_pi, fun m g _ => frame_pi m g trivial, frame_ri, fun m g _ => frame_ri m g trivial, trivial, algebraic⟩

end Cert.Proof

end
